-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranked_apart [hPre_ranked_apart : Cert.Pre_ranked_apart.Facts] (m : (ℓ : Loc Cert.KernelIdeal.nD Cert.KernelIdeal.τ Cert.KernelIdeal.sig) → Buf (Elt Ideal) ℓ) : Prop :=
  ∀ c : Dev Cert.KernelIdeal.nD,
    (Cert.Pre_ranked_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_ranked_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_ranked_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranked_apart [hPre_ranked_apart : Cert.Pre_ranked_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranked_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_ranked_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_ranked_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ranked_apart [hKernelIdeal : Cert.KernelIdeal.Facts] [hPre_ranked_apart : Cert.Pre_ranked_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranked_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ranked_apart [hReferenceIdeal : Cert.ReferenceIdeal.Facts] [hPre_ranked_apart : Cert.Pre_ranked_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranked_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ranked_apart [hKernelIdeal : Cert.KernelIdeal.Facts] [hReferenceIdeal : Cert.ReferenceIdeal.Facts] [hPre_ranked_apart : Cert.Pre_ranked_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranked_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ranked_apart : Cert.Pre_ranked_apart.Facts),
    quiescent_Kernel (hKernel := hKernel)
    ∧ quiescent_KernelIdeal (hKernelIdeal := hKernelIdeal)
    ∧ quiescent_KernelIdeal_pre_ranked_apart (hKernelIdeal := hKernelIdeal) (hPre_ranked_apart := hPre_ranked_apart)
    ∧ quiescent_ReferenceIdeal (hReferenceIdeal := hReferenceIdeal)
    ∧ quiescent_ReferenceIdeal_pre_ranked_apart (hReferenceIdeal := hReferenceIdeal) (hPre_ranked_apart := hPre_ranked_apart)
    ∧ preserves_Kernel_KernelIdeal
    ∧ algebraic_KernelIdeal_ReferenceIdeal_pre_ranked_apart (hKernelIdeal := hKernelIdeal) (hReferenceIdeal := hReferenceIdeal) (hPre_ranked_apart := hPre_ranked_apart)
-- ==== Pre_ranked_apart.lean ====
abbrev S4096x16 : Shape := ⟨2, ![4096, 16]⟩
abbrev S21 : Shape := ⟨1, ![21]⟩
abbrev S_ : Shape := ⟨0, ![]⟩
abbrev S4096 : Shape := ⟨1, ![4096]⟩
abbrev S4096x1 : Shape := ⟨2, ![4096, 1]⟩
abbrev S16x4096 : Shape := ⟨2, ![16, 4096]⟩
abbrev S4096x4096 : Shape := ⟨2, ![4096, 4096]⟩
abbrev S4096x22 : Shape := ⟨2, ![4096, 22]⟩
abbrev S4096x21 : Shape := ⟨2, ![4096, 21]⟩
abbrev S4096x32x128 : Shape := ⟨3, ![4096, 32, 128]⟩
abbrev S4096x128 : Shape := ⟨2, ![4096, 128]⟩

class Facts : Prop where
  reducesTo_S4096x16_S4096_d1 : S4096x16.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16_0_1 : S4096x1.BroadcastsInDim S4096x16 (![0, 1] : Fin 2 → Fin S4096x16.rank)
  transposes_S4096x16_S16x4096_1_0 : S4096x16.Transposes [1, 0] S16x4096
  sliceFits_S4096x4096_S4096x22 : S4096x4096.Slices (fun _ => 0) S4096x22
  slices_S4096x22_S4096x21_0_0 : S4096x22.Slices ![0, 0] S4096x21
  slices_S4096x22_S4096x21_0_1 : S4096x22.Slices ![0, 1] S4096x21
  slices_S4096x22_S4096x1_0_20 : S4096x22.Slices ![0, 20] S4096x1
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4096x4096_S4096x32x128 : S4096x4096.ShapeCasts S4096x32x128
  reducesTo_S4096x32x128_S4096x128_d1 : S4096x32x128.ReducesTo [1] S4096x128
  bcast_S_S4096x128 : S_.BroadcastsInDim S4096x128 (![] : Fin 0 → Fin S4096x128.rank)
  reducesTo_S21_S_d0 : S21.ReducesTo [0] S_
  dot_S4096x16_S16x4096_S4096x4096_1_0_0_1_n_n_wf : DotDims.WF S4096x16 S16x4096 S4096x4096 [1] [0] [0] [1] [] []

variable [Facts]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def fn_where {F : FTy → Type} [FloatOps F] (arg0 : IVec S4096x4096 1) (arg1 : FVec F S_ .f32) (arg2 : FVec F S_ .f32) : FVec F S4096x4096 .f32 :=
  let v0 : FVec F S4096x4096 .f32 := broadcastInDim S4096x4096 ![] bcast_S_S4096x4096 arg1
  let v1 : FVec F S4096x4096 .f32 := broadcastInDim S4096x4096 ![] bcast_S_S4096x4096 arg2
  let v2 : FVec F S4096x4096 .f32 := select arg0 v0 v1
  v2

def fn_part1 {F : FTy → Type} [FloatOps F] (main_arg1 : FVec F S21 .f32) (main_v12 : IVec S4096x21 1) (main_v17 : FVec F S4096x32x128 .f32) : IVec S4096x21 1 × IVec S4096x128 1 × IVec S_ 1 :=
  let main_v18 : FVec F S4096x32x128 .f32 := id main_v17
  let main_cst_3 : FVec F S_ .f32 := constant S_ .f32 0x00000000#32
  let main_v19 : FVec F S4096x128 .f32 := (fun x v => Host.reduceAdd x v reducesTo_S4096x32x128_S4096x128_d1 h_S_) main_v18 main_cst_3
  let main_cst_4 : FVec F S_ .f32 := constant S_ .f32 0x40A00000#32
  let main_v20 : FVec F S4096x128 .f32 := broadcastInDim S4096x128 ![] bcast_S_S4096x128 main_cst_4
  let main_v21 : IVec S4096x128 1 := cmpf .ole main_v19 main_v20
  let main_cst_5 : FVec F S_ .f32 := constant S_ .f32 0x00000000#32
  let main_v22 : FVec F S_ .f32 := (fun x v => Host.reduceAdd x v reducesTo_S21_S_d0 h_S_) main_arg1 main_cst_5
  let main_cst_6 : FVec F S_ .f32 := constant S_ .f32 0x322BCC77#32
  let main_v23 : FVec F S_ .f32 := addf main_v22 main_cst_6
  let main_cst_7 : FVec F S_ .f32 := constant S_ .f32 0x00000000#32
  let main_v24 : IVec S_ 1 := cmpf .une main_v23 main_cst_7
  (main_v12, main_v21, main_v24)

def fn {F : FTy → Type} [FloatOps F] (main_arg0 : FVec F S4096x16 .f32) (main_arg1 : FVec F S21 .f32) : IVec S4096x21 1 × IVec S4096x128 1 × IVec S_ 1 :=
  let main_v0 : FVec F S4096x16 .f32 := mulf main_arg0 main_arg0
  let main_cst : FVec F S_ .f32 := constant S_ .f32 0x00000000#32
  let main_v1 : FVec F S4096 .f32 := (fun x v => Host.reduceAdd x v reducesTo_S4096x16_S4096_d1 h_S_) main_v0 main_cst
  let main_v2 : FVec F S4096x1 .f32 := broadcastInDim S4096x1 ![0] bcast_S4096_S4096x1_0 main_v1
  let main_v3 : FVec F S4096x1 .f32 := Host.sqrt main_v2
  let main_cst_0 : FVec F S_ .f32 := constant S_ .f32 0x2B8CBCCC#32
  let main_v4 : FVec F S4096x1 .f32 := broadcastInDim S4096x1 ![] bcast_S_S4096x1 main_cst_0
  let main_v5 : FVec F S4096x1 .f32 := maximumf main_v3 main_v4
  let main_v6 : FVec F S4096x16 .f32 := broadcastInDim S4096x16 ![0, 1] bcast_S4096x1_S4096x16_0_1 main_v5
  let main_v7 : FVec F S4096x16 .f32 := Host.divf main_arg0 main_v6
  let main_v8 : FVec F S16x4096 .f32 := (transpose S16x4096 [1, 0] · transposes_S4096x16_S16x4096_1_0) main_v7
  let main_v9 : FVec F S4096x4096 .f32 := (fun l r => Host.dotGeneral dot_S4096x16_S16x4096_S4096x4096_1_0_0_1_n_n none l r) main_v7 main_v8
  let main_values : FVec F S4096x22 .f32 := (fun x => (Host.topK S4096x22 1 (FloatOps.cmpfTotal .gt) x sliceFits_S4096x4096_S4096x22).1) main_v9
  let main_indices : IVec S4096x22 32 := (fun x => (Host.topK S4096x22 1 (FloatOps.cmpfTotal .gt) x sliceFits_S4096x4096_S4096x22).2) main_v9
  let main_v10 : FVec F S4096x21 .f32 := (extractStridedSlice S4096x21 ![0, 0] · slices_S4096x22_S4096x21_0_0) main_values
  let main_v11 : FVec F S4096x21 .f32 := (extractStridedSlice S4096x21 ![0, 1] · slices_S4096x22_S4096x21_0_1) main_values
  let main_v12 : IVec S4096x21 1 := cmpf .ogt main_v10 main_v11
  let main_v13 : FVec F S4096x1 .f32 := (extractStridedSlice S4096x1 ![0, 20] · slices_S4096x22_S4096x1_0_20) main_values
  let main_v14 : FVec F S4096x4096 .f32 := broadcastInDim S4096x4096 ![0, 1] bcast_S4096x1_S4096x4096_0_1 main_v13
  let main_v15 : IVec S4096x4096 1 := cmpf .oge main_v9 main_v14
  let main_cst_1 : FVec F S_ .f32 := constant S_ .f32 0x3F800000#32
  let main_cst_2 : FVec F S_ .f32 := constant S_ .f32 0x00000000#32
  let main_v16 : FVec F S4096x4096 .f32 := fn_where (F := F) main_v15 main_cst_1 main_cst_2
  let main_v17 : FVec F S4096x32x128 .f32 := shapeCast S4096x32x128 main_v16 shapeCasts_S4096x4096_S4096x32x128
  fn_part1 (F := F) main_arg1 main_v12 main_v17
-- ==== Kernel.lean ====
abbrev S4096x16 : Shape := ⟨2, ![4096, 16]⟩
abbrev S21 : Shape := ⟨1, ![21]⟩
abbrev S1x21 : Shape := ⟨2, ![1, 21]⟩
abbrev S4096x4096 : Shape := ⟨2, ![4096, 4096]⟩
abbrev S256x16 : Shape := ⟨2, ![256, 16]⟩
abbrev S256x4096 : Shape := ⟨2, ![256, 4096]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S256x128 : Shape := ⟨2, ![256, 128]⟩
abbrev S256x640 : Shape := ⟨2, ![256, 640]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x16, .f32⟩
  | .hbm, ⟨1, _⟩ => ⟨S21, .f32⟩
  | .hbm, ⟨2, _⟩ => ⟨S1x21, .f32⟩
  | .hbm, ⟨3, _⟩ => ⟨S4096x4096, .f32⟩
  | .local _ .vmem, ⟨0, _⟩ => ⟨S256x16, .f32⟩
  | .local _ .vmem, ⟨1, _⟩ => ⟨S256x16, .f32⟩
  | .local _ .vmem, ⟨2, _⟩ => ⟨S4096x16, .f32⟩
  | .local _ .vmem, ⟨3, _⟩ => ⟨S1x21, .f32⟩
  | .local _ .vmem, ⟨4, _⟩ => ⟨S256x4096, .f32⟩
  | .local _ .vmem, ⟨5, _⟩ => ⟨S256x4096, .f32⟩
  | .local _ .vmem, ⟨6, _⟩ => ⟨S4096x16, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x16 : Shape := ⟨2, ![4096, 16]⟩
abbrev S21 : Shape := ⟨1, ![21]⟩
abbrev S_ : Shape := ⟨0, ![]⟩
abbrev S4096 : Shape := ⟨1, ![4096]⟩
abbrev S4096x1 : Shape := ⟨2, ![4096, 1]⟩
abbrev S16x4096 : Shape := ⟨2, ![16, 4096]⟩
abbrev S4096x4096 : Shape := ⟨2, ![4096, 4096]⟩
abbrev S4096x21 : Shape := ⟨2, ![4096, 21]⟩
abbrev S4096x21x1 : Shape := ⟨3, ![4096, 21, 1]⟩
abbrev S4096x21x2 : Shape := ⟨3, ![4096, 21, 2]⟩
abbrev S1x21 : Shape := ⟨2, ![1, 21]⟩

abbrev nBuf : Space → Nat
  | .hbm => 73
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S21, .f32⟩
  | .hbm, ⟨2, _⟩ => ⟨S4096x16, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x16, .f32⟩
  | .hbm, ⟨11, _⟩ => ⟨S4096x16, .f32⟩
  | .hbm, ⟨12, _⟩ => ⟨S16x4096, .f32⟩
  | .hbm, ⟨13, _⟩ => ⟨S4096x4096, .f32⟩
  | .hbm, ⟨14, _⟩ => ⟨S4096x21, .f32⟩
  | .hbm, ⟨15, _⟩ => ⟨S4096x21, .i32⟩
  | .hbm, ⟨16, _⟩ => ⟨S4096, .i32⟩
  | .hbm, ⟨17, _⟩ => ⟨S4096x1, .i32⟩
  | .hbm, ⟨18, _⟩ => ⟨S_, .f32⟩
  | .hbm, ⟨19, _⟩ => ⟨S4096x4096, .f32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S_, .i32⟩
  | .hbm, ⟨28, _⟩ => ⟨S4096x21, .i32⟩
  | .hbm, ⟨29, _⟩ => ⟨S4096x21, .i1⟩
  | .hbm, ⟨30, _⟩ => ⟨S_, .i32⟩
  | .hbm, ⟨31, _⟩ => ⟨S4096x21, .i32⟩
  | .hbm, ⟨32, _⟩ => ⟨S4096x21, .i32⟩
  | .hbm, ⟨33, _⟩ => ⟨S4096x21, .i32⟩
  | .hbm, ⟨34, _⟩ => ⟨S4096x21, .i32⟩
  | .hbm, ⟨35, _⟩ => ⟨S4096x21x1, .i32⟩
  | .hbm, ⟨36, _⟩ => ⟨S4096x21x1, .i32⟩
  | .hbm, ⟨37, _⟩ => ⟨S4096x21x2, .i32⟩
  | .hbm, ⟨38, _⟩ => ⟨S_, .f32⟩
  | .hbm, ⟨39, _⟩ => ⟨S4096x21, .f32⟩
  | .hbm, ⟨40, _⟩ => ⟨S4096x4096, .f32⟩
  | .hbm, ⟨41, _⟩ => ⟨S1x21, .f32⟩
  | .hbm, ⟨42, _⟩ => ⟨S4096x21, .f32⟩
  | .hbm, ⟨43, _⟩ => ⟨S_, .f32⟩
  | .hbm, ⟨44, _⟩ => ⟨S4096x4096, .f32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S_, .i32⟩
  | .hbm, ⟨49, _⟩ => ⟨S4096x1, .i32⟩
  | .hbm, ⟨50, _⟩ => ⟨S4096x1, .i32⟩
  | .hbm, ⟨51, _⟩ => ⟨S4096x1, .i32⟩
  | .hbm, ⟨52, _⟩ => ⟨S_, .i32⟩
  | .hbm, ⟨53, _⟩ => ⟨S4096x21, .i32⟩
  | .hbm, ⟨54, _⟩ => ⟨S4096x21, .i1⟩
  | .hbm, ⟨55, _⟩ => ⟨S_, .i32⟩
  | .hbm, ⟨56, _⟩ => ⟨S4096x21, .i32⟩
  | .hbm, ⟨57, _⟩ => ⟨S4096x21, .i32⟩
  | .hbm, ⟨58, _⟩ => ⟨S4096x21, .i32⟩
  | .hbm, ⟨59, _⟩ => ⟨S4096x21, .i32⟩
  | .hbm, ⟨60, _⟩ => ⟨S4096x21x1, .i32⟩
  | .hbm, ⟨61, _⟩ => ⟨S4096x21x1, .i32⟩
  | .hbm, ⟨62, _⟩ => ⟨S4096x21x2, .i32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x4096, .f32⟩
  | .hbm, ⟨72, _⟩ => ⟨S4096x4096, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_values : Ref sig .tc := ⟨.hbm, 14, rfl⟩
abbrev main_indices : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Proof.Block.lean ====
/- What one block of the kernel computes, written as the kernel's own loops: the insertion network over the 32 chunks of
   columns, the 21 rounds of row maxima, the ten weight steps. `pieces_A` and `pieces_B` state that the run of the body
   leaves exactly this block, at the first grid point and at the others. -/
module

public import proofs.«01_k».proof.Proof.Gen.KernelIdeal.Value
public import Idealize.ShloMosaic.Lib.Pointwise

@[expose] public section

noncomputable section

namespace Cert.Block

open Idealize.ShloMosaic Idealize.ShloMosaic.TcCoe Idealize.ShloMosaic.Tactic Idealize.ShloMosaic.Pointwise
open Cert.KernelIdeal Cert.KernelIdeal.Gen

variable {F : FTy → Type} [FloatOps F]

/-- The number the networks start from, and that the rounds write over a maximum already taken. -/
def neg : F .f32 := Scalar.ofBits .f32 0xFF61B1E6#32

/-- Columns `128 g` to `128 g + 127` lie in a block of 4096 columns, for `g` below 32. -/
theorem slices_chunk (g : ℕ) : S256x4096.Slices ![0, 128 * (g % 32)] S256x128 := by
  refine ⟨rfl, fun a => ?_⟩
  fin_cases a
  · exact (by decide : 0 + 256 ≤ 256)
  · change 128 * (g % 32) + 128 ≤ 4096
    omega

/-- Chunk `g` of the block's columns. -/
def chunk (s : FVec F S256x4096 .f32) (g : ℕ) : FVec F S256x128 .f32 :=
  extractStridedSlice S256x128 ![0, 128 * (g % 32)] s (slices_chunk g)

/-- The value carried to position `k` of the network when `v` is inserted into `t`: `v`, lowered by each entry passed. -/
def carry (t : ℕ → FVec F S256x128 .f32) (v : FVec F S256x128 .f32) : ℕ → FVec F S256x128 .f32
  | 0 => v
  | k + 1 => minimumf (t k) (carry t v k)

/-- The network's entry `k` after the first `g` chunks. -/
def net (s : FVec F S256x4096 .f32) : ℕ → ℕ → FVec F S256x128 .f32
  | 0, _ => broadcast S256x128 neg
  | g + 1, k => maximumf (net s g k) (carry (net s g) (chunk s g) k)

/-- Five blocks of 128 columns side by side. -/
theorem concatenates_five :
    Shape.Concatenates [S256x128, S256x128, S256x128, S256x128, S256x128] S256x640 1 := by decide

/-- The five entries of every lane after all 32 chunks, side by side. -/
def pool (s : FVec F S256x4096 .f32) : FVec F S256x640 .f32 :=
  concatenate S256x640 1 [⟨S256x128, net s 32 0⟩, ⟨S256x128, net s 32 1⟩, ⟨S256x128, net s 32 2⟩,
    ⟨S256x128, net s 32 3⟩, ⟨S256x128, net s 32 4⟩] concatenates_five

theorem reduces_pool : S256x640.Reduces [1] S256 := by decide
theorem column_256 : S256.ShapeCasts S256x1 := by decide
theorem along_pool : S256x1.Broadcasts S256x640 := by decide
theorem along_row : S256x1.Broadcasts S256x4096 := by decide

/-- The maximum of each row of a pool. -/
def rowMax (p : FVec F S256x640 .f32) : FVec F S256x1 .f32 :=
  shapeCast S256x1 (multiReduction .maximumf [1] S256 p 0xFF800000#32 reduces_pool (.inl rfl) rfl) column_256

/-- The pool after `q` rounds: each round overwrites what equals the row's maximum. -/
def rounds (p : FVec F S256x640 .f32) : ℕ → FVec F S256x640 .f32
  | 0 => p
  | q + 1 => select (cmpf .oeq (rounds p q) (broadcastTo S256x640 (rowMax (rounds p q)) along_pool))
      (broadcast S256x640 neg) (rounds p q)

/-- The threshold of rank `q`: the row's maximum at round `q`. -/
def thr (p : FVec F S256x640 .f32) (q : ℕ) : FVec F S256x1 .f32 := rowMax (rounds p q)

/-- The sum of the weights and a small number. -/
def denom (w : Vec F S1x21 .f32) : F .f32 := k0_pay269 w

/-- The accumulated weight after `p` steps: each step moves the elements below its two thresholds on by two ranks, or by
one. `wt r` is the weight of rank `r`, `d` the denominator, `m` the thresholds. -/
def steps (s : FVec F S256x4096 .f32) (m : ℕ → FVec F S256x1 .f32) (wt : ℕ → F .f32) (d : F .f32) :
    ℕ → FVec F S256x4096 .f32
  | 0 => broadcast S256x4096 (Scalar.divf (wt 0) d)
  | p + 1 => addf (steps s m wt d p)
      (select (cmpf .olt s (broadcastTo S256x4096 (m (2 * p + 1)) along_row))
        (broadcast S256x4096 (Scalar.divf (Scalar.subf (wt (2 * p + 2)) (wt (2 * p))) d))
        (select (cmpf .olt s (broadcastTo S256x4096 (m (2 * p)) along_row))
          (broadcast S256x4096 (Scalar.divf (Scalar.subf (wt (2 * p + 1)) (wt (2 * p))) d))
          (broadcast S256x4096 (Scalar.ofBits .f32 0x00000000#32))))

/-- The block written: the accumulated weight at the elements not below the last threshold, zero elsewhere. -/
def blockOf (s : FVec F S256x4096 .f32) (wt : ℕ → F .f32) (d : F .f32) : FVec F S256x4096 .f32 :=
  select (cmpf .oge s (broadcastTo S256x4096 (thr (pool s) 20) along_row))
    (steps s (thr (pool s)) wt d 10)
    (broadcast S256x4096 (Scalar.ofBits .f32 0x00000000#32))

/-- One weight, read by itself. -/
theorem inb_weight (r : ℕ) : ∀ a, (![0, r % 21] : Fin 2 → Nat) a + S1x1.size a ≤ S1x21.size a := by
  intro a
  fin_cases a
  · exact (by decide : 0 + 1 ≤ 1)
  · change r % 21 + 1 ≤ 21
    omega

/-- The weight of rank `r`, as the body loads it. -/
def weight (arg3 : Memref sig .tc .vmem S1x21 .f32) (harg3 : arg3.IsWhole) (x2 : Vec F S1x21 .f32) (r : ℕ) : F .f32 :=
  extractAt (s := S1x1) ![0, 0] (View.readAt (Elt F) arg3.view (Rect.unit (s := S1x21) ![0, r % 21] S1x1.size (inb_weight r)).toLoadRect
    (harg3.unread x2)) (by decide)

/-- The body's block at a point other than the first: the rows' similarities to the scratch, then the block of them. -/
theorem pieces_B (c : Dev nD) (i : grid0.Coords) (arg1 : Memref sig .tc .vmem S256x16 .f32) (harg1 : arg1.IsWhole)
    (arg2 : Memref sig .tc .vmem S4096x16 .f32) (harg2 : arg2.IsWhole) (arg3 : Memref sig .tc .vmem S1x21 .f32)
    (harg3 : arg3.IsWhole) (arg4 : Memref sig .tc .vmem S256x4096 .f32) (harg4 : arg4.IsWhole)
    (arg5 : Memref sig .tc .vmem S4096x16 .f32) (harg5 : arg5.IsWhole) (hc0 : ¬cond0_0 i)
    (x0 : Vec F S256x16 .f32) (x1 : Vec F S4096x16 .f32) (x2 : Vec F S1x21 .f32) (xs0 : Vec F S4096x16 .f32) :
    (kernelRun0_B c i arg1 harg1 arg2 harg2 arg3 harg3 arg4 harg4 arg5 harg5 hc0 x0 x1 x2 xs0).1
      = [⟨Rect.unit ![0, 0] ![256, 4096] inb_S256x4096_S256x4096_0_0,
          blockOf (k0_pay3
              (View.readAt (Elt F) arg1.view (Rect.unit ![0, 0] S256x16.size inb_S256x16_S256x16_0_0).toLoadRect
                (harg1.unread x0))
              (View.readAt (Elt F) arg5.view (Rect.unit ![0, 0] S4096x16.size inb_S4096x16_S4096x16_0_0).toLoadRect
                (harg5.unread xs0)))
            (weight arg3 harg3 x2)
            (denom (View.readAt (Elt F) arg3.view
              (Rect.unit ![0, 0] S1x21.size inb_S1x21_S1x21_0_0).toLoadRect (harg3.unread x2)))⟩] := by
  sl_kernel_rfl

/-- The body's block at the first point: the same, the similarities taken to the rows it has just put in the scratch. -/
theorem pieces_A (c : Dev nD) (i : grid0.Coords) (arg1 : Memref sig .tc .vmem S256x16 .f32) (harg1 : arg1.IsWhole)
    (arg2 : Memref sig .tc .vmem S4096x16 .f32) (harg2 : arg2.IsWhole) (arg3 : Memref sig .tc .vmem S1x21 .f32)
    (harg3 : arg3.IsWhole) (arg4 : Memref sig .tc .vmem S256x4096 .f32) (harg4 : arg4.IsWhole)
    (arg5 : Memref sig .tc .vmem S4096x16 .f32) (harg5 : arg5.IsWhole) (hc0 : cond0_0 i)
    (x0 : Vec F S256x16 .f32) (x1 : Vec F S4096x16 .f32) (x2 : Vec F S1x21 .f32) :
    (kernelRun0_A c i arg1 harg1 arg2 harg2 arg3 harg3 arg4 harg4 arg5 harg5 hc0 x0 x1 x2).1
      = [⟨Rect.unit ![0, 0] ![256, 4096] inb_S256x4096_S256x4096_0_0,
          blockOf (k0_pay3
              (View.readAt (Elt F) arg1.view (Rect.unit ![0, 0] S256x16.size inb_S256x16_S256x16_0_0).toLoadRect
                (harg1.unread x0))
              (arg5.view.readCov
                [⟨Rect.unit ![0, 0] S4096x16.size inb_S4096x16_S4096x16_0_0,
                  k0_pay2 (View.readAt (Elt F) arg2.view
                    (Rect.unit ![0, 0] S4096x16.size inb_S4096x16_S4096x16_0_0).toLoadRect (harg2.unread x1))⟩]
                (Rect.unit ![0, 0] S4096x16.size inb_S4096x16_S4096x16_0_0).toLoadRect))
            (weight arg3 harg3 x2)
            (denom (View.readAt (Elt F) arg3.view
              (Rect.unit ![0, 0] S1x21.size inb_S1x21_S1x21_0_0).toLoadRect (harg3.unread x2)))⟩] := by
  sl_kernel_rfl

/-- What the body puts in the scratch at the first point: the normalised rows. -/
theorem scratch_A (c : Dev nD) (i : grid0.Coords) (arg1 : Memref sig .tc .vmem S256x16 .f32) (harg1 : arg1.IsWhole)
    (arg2 : Memref sig .tc .vmem S4096x16 .f32) (harg2 : arg2.IsWhole) (arg3 : Memref sig .tc .vmem S1x21 .f32)
    (harg3 : arg3.IsWhole) (arg4 : Memref sig .tc .vmem S256x4096 .f32) (harg4 : arg4.IsWhole)
    (arg5 : Memref sig .tc .vmem S4096x16 .f32) (harg5 : arg5.IsWhole) (hc0 : cond0_0 i)
    (x0 : Vec F S256x16 .f32) (x1 : Vec F S4096x16 .f32) (x2 : Vec F S1x21 .f32) :
    (kernelRun0_A c i arg1 harg1 arg2 harg2 arg3 harg3 arg4 harg4 arg5 harg5 hc0 x0 x1 x2).2.1
      = [⟨Rect.unit ![0, 0] S4096x16.size inb_S4096x16_S4096x16_0_0,
          k0_pay2 (View.readAt (Elt F) arg2.view
            (Rect.unit ![0, 0] S4096x16.size inb_S4096x16_S4096x16_0_0).toLoadRect (harg2.unread x1))⟩] := by
  sl_kernel_rfl

theorem zeros : (![0, 0] : Fin 2 → Nat) = fun _ => 0 := funext fun a => by fin_cases a <;> rfl

/-- The weight of rank `r`, of the block of weights. -/
def wgt (x2 : Vec F S1x21 .f32) (r : ℕ) : F .f32 := x2 (ix2 0 ⟨r % 21, Nat.mod_lt _ (by decide)⟩)

/-- The weight the body loads is that one. -/
theorem weight_eq (arg3 : Memref sig .tc .vmem S1x21 .f32) (harg3 : arg3.IsWhole) (x2 : Vec F S1x21 .f32) :
    weight arg3 harg3 x2 = wgt x2 := by
  funext r
  unfold weight wgt extractAt
  rw [View.readAt_eq_ld, harg3.read_unread]
  unfold View.ld
  congr 1
  funext a
  fin_cases a
  · rfl
  · exact Fin.ext (by change r % 21 + 1 * 0 = r % 21; omega)

/-- What a point other than the first leaves in the result's block. -/
theorem out_B (c : Dev nD) (i : grid0.Coords) (arg1 : Memref sig .tc .vmem S256x16 .f32) (harg1 : arg1.IsWhole)
    (arg2 : Memref sig .tc .vmem S4096x16 .f32) (harg2 : arg2.IsWhole) (arg3 : Memref sig .tc .vmem S1x21 .f32)
    (harg3 : arg3.IsWhole) (arg4 : Memref sig .tc .vmem S256x4096 .f32) (harg4 : arg4.IsWhole)
    (arg5 : Memref sig .tc .vmem S4096x16 .f32) (harg5 : arg5.IsWhole) (hc0 : ¬cond0_0 i)
    (x0 : Vec F S256x16 .f32) (x1 : Vec F S4096x16 .f32) (x2 : Vec F S1x21 .f32) (xs0 : Vec F S4096x16 .f32) :
    out0_B_3 c i arg1 harg1 arg2 harg2 arg3 harg3 arg4 harg4 arg5 harg5 hc0 x0 x1 x2 xs0
      = blockOf (k0_pay3 x0 xs0) (wgt x2) (denom x2) := by
  unfold out0_B_3
  rw [View.read_writes_eq_canon _ _ _
    (cover0_B_3 c i arg1 harg1 arg2 harg2 arg3 harg3 arg4 harg4 arg5 harg5 hc0 x0 x1 x2 xs0), pieces_B]
  refine (View.canon_unit_zero (S := S256x4096) zeros _ _).trans ?_
  rw [weight_eq]
  simp only [View.readAt_eq_ld, harg1.read_unread, harg3.read_unread, harg5.read_unread,
    View.ld_unit_zero (S := S256x16) zeros, View.ld_unit_zero (S := S4096x16) zeros, View.ld_unit_zero (S := S1x21) zeros]

/-- What the first point leaves in the result's block. -/
theorem out_A (c : Dev nD) (i : grid0.Coords) (arg1 : Memref sig .tc .vmem S256x16 .f32) (harg1 : arg1.IsWhole)
    (arg2 : Memref sig .tc .vmem S4096x16 .f32) (harg2 : arg2.IsWhole) (arg3 : Memref sig .tc .vmem S1x21 .f32)
    (harg3 : arg3.IsWhole) (arg4 : Memref sig .tc .vmem S256x4096 .f32) (harg4 : arg4.IsWhole)
    (arg5 : Memref sig .tc .vmem S4096x16 .f32) (harg5 : arg5.IsWhole) (hc0 : cond0_0 i)
    (x0 : Vec F S256x16 .f32) (x1 : Vec F S4096x16 .f32) (x2 : Vec F S1x21 .f32) :
    out0_A_3 c i arg1 harg1 arg2 harg2 arg3 harg3 arg4 harg4 arg5 harg5 hc0 x0 x1 x2
      = blockOf (k0_pay3 x0 (k0_pay2 x1)) (wgt x2) (denom x2) := by
  unfold out0_A_3
  rw [View.read_writes_eq_canon _ _ _
    (cover0_A_3 c i arg1 harg1 arg2 harg2 arg3 harg3 arg4 harg4 arg5 harg5 hc0 x0 x1 x2), pieces_A]
  refine (View.canon_unit_zero (S := S256x4096) zeros _ _).trans ?_
  rw [weight_eq, View.readCov_unit_zero (S := S4096x16) _ zeros]
  simp only [View.readAt_eq_ld, harg1.read_unread, harg2.read_unread, harg3.read_unread,
    View.ld_unit_zero (S := S256x16) zeros, View.ld_unit_zero (S := S4096x16) zeros, View.ld_unit_zero (S := S1x21) zeros]

/-- What the first point leaves in the scratch. -/
theorem sout_A (c : Dev nD) (i : grid0.Coords) (arg1 : Memref sig .tc .vmem S256x16 .f32) (harg1 : arg1.IsWhole)
    (arg2 : Memref sig .tc .vmem S4096x16 .f32) (harg2 : arg2.IsWhole) (arg3 : Memref sig .tc .vmem S1x21 .f32)
    (harg3 : arg3.IsWhole) (arg4 : Memref sig .tc .vmem S256x4096 .f32) (harg4 : arg4.IsWhole)
    (arg5 : Memref sig .tc .vmem S4096x16 .f32) (harg5 : arg5.IsWhole) (hc0 : cond0_0 i)
    (x0 : Vec F S256x16 .f32) (x1 : Vec F S4096x16 .f32) (x2 : Vec F S1x21 .f32) :
    sout0_A_0 c i arg1 harg1 arg2 harg2 arg3 harg3 arg4 harg4 arg5 harg5 hc0 x0 x1 x2 = k0_pay2 x1 := by
  unfold sout0_A_0
  rw [View.read_writes_eq_canon _ _ _
    (scover0_A_0 c i arg1 harg1 arg2 harg2 arg3 harg3 arg4 harg4 arg5 harg5 hc0 x0 x1 x2), scratch_A]
  refine (View.canon_unit_zero (S := S4096x16) zeros _ _).trans ?_
  simp only [View.readAt_eq_ld, harg2.read_unread, View.ld_unit_zero (S := S4096x16) zeros]

end Cert.Block
-- ==== Proof.Rank.lean ====
/- The order mathematics of the kernel, on one row, over any linear order.
   * The insertion network (`netS`): entry `k` is at least `a` exactly when more than `k` of the values inserted are.
   * The rounds (`roundS`): taking the maximum and striking it out, again and again, lists the largest values. -/
module

public import Mathlib.Order.Lattice
public import Mathlib.Data.Finset.Card
public import Mathlib.Data.Finset.Range
public import Mathlib.Data.Fintype.Card
public import Mathlib.Tactic.Linarith

@[expose] public section

namespace Cert.Rank

variable {α : Type*} [LinearOrder α]

/-- The value carried to position `k` when `v` is inserted into `t`. -/
def carryS (t : ℕ → α) (v : α) : ℕ → α
  | 0 => v
  | k + 1 => min (t k) (carryS t v k)

/-- Entry `k` of the network after the first `g` of the values `v`, started at `bot`. -/
def netS (bot : α) (v : ℕ → α) : ℕ → ℕ → α
  | 0, _ => bot
  | g + 1, k => max (netS bot v g k) (carryS (netS bot v g) (v g) k)

/-- How many of the first `g` values are at least `a`. -/
def countS (v : ℕ → α) (a : α) (g : ℕ) : ℕ := ((Finset.range g).filter (fun h => a ≤ v h)).card

theorem countS_succ (v : ℕ → α) (a : α) (g : ℕ) :
    countS v a (g + 1) = countS v a g + if a ≤ v g then 1 else 0 := by
  unfold countS
  rw [Finset.range_add_one, Finset.filter_insert]
  split
  · rw [Finset.card_insert_of_notMem (by simp)]
  · rfl

/-- The carried value is at least `a` when the inserted one is and all the entries passed are. -/
theorem le_carryS (t : ℕ → α) (v a : α) (k : ℕ) : a ≤ carryS t v k ↔ a ≤ v ∧ ∀ j < k, a ≤ t j := by
  induction k with
  | zero => simp [carryS]
  | succ k ih =>
    rw [carryS, le_min_iff, ih]
    constructor
    · rintro ⟨h1, h2, h3⟩
      refine ⟨h2, fun j hj => ?_⟩
      rcases Nat.lt_succ_iff_lt_or_eq.1 hj with h | rfl
      · exact h3 j h
      · exact h1
    · rintro ⟨h1, h2⟩
      exact ⟨h2 k (Nat.lt_succ_self k), h1, fun j hj => h2 j (Nat.lt_succ_of_lt hj)⟩

/-- Entry `k` of the network is at least `a`, a value above the start, when more than `k` of the values are. -/
theorem le_netS (bot : α) (v : ℕ → α) (a : α) (ha : bot < a) (g k : ℕ) :
    a ≤ netS bot v g k ↔ k < countS v a g := by
  induction g generalizing k with
  | zero => simp [netS, countS, ha]
  | succ g ih =>
    rw [netS, le_max_iff, le_carryS, ih, countS_succ]
    simp only [ih]
    constructor
    · rintro (h | ⟨h1, h2⟩)
      · exact Nat.lt_of_lt_of_le h (Nat.le_add_right _ _)
      · rw [if_pos h1]
        refine Nat.lt_succ_of_le (Nat.le_of_not_lt fun hlt => ?_)
        exact absurd (h2 _ hlt) (Nat.lt_irrefl _)
    · intro h
      by_cases h1 : a ≤ v g
      · rw [if_pos h1] at h
        exact Or.inr ⟨h1, fun j hj => by omega⟩
      · rw [if_neg h1] at h
        exact Or.inl h

/-- Every entry of the network is the start or a value inserted. -/
theorem netS_mem (bot : α) (v : ℕ → α) (g k : ℕ) : netS bot v g k = bot ∨ ∃ h < g, netS bot v g k = v h := by
  have hc : ∀ (t : ℕ → α) (w : α) (k : ℕ), carryS t w k = w ∨ ∃ j < k, carryS t w k = t j := by
    intro t w k
    induction k with
    | zero => exact Or.inl rfl
    | succ k ih =>
      rw [carryS]
      rcases min_choice (t k) (carryS t w k) with h | h
      · exact Or.inr ⟨k, Nat.lt_succ_self k, h⟩
      · rw [h]
        rcases ih with h' | ⟨j, hj, h'⟩
        · exact Or.inl h'
        · exact Or.inr ⟨j, Nat.lt_succ_of_lt hj, h'⟩
  induction g generalizing k with
  | zero => exact Or.inl rfl
  | succ g ih =>
    have up : ∀ k, netS bot v g k = bot ∨ ∃ h < g + 1, netS bot v g k = v h := fun k =>
      (ih k).imp id fun ⟨h, hh, e⟩ => ⟨h, Nat.lt_succ_of_lt hh, e⟩
    rw [netS]
    rcases max_choice (netS bot v g k) (carryS (netS bot v g) (v g) k) with h | h
    · rw [h]; exact up k
    · rw [h]
      rcases hc (netS bot v g) (v g) k with h' | ⟨j, -, h'⟩
      · exact Or.inr ⟨g, Nat.lt_succ_self g, h'⟩
      · rw [h']; exact up j

/-- A value inserted, above the start, with at most five of the values at least as large (itself among them), is one of
the first five entries. -/
theorem mem_netS (bot : α) (v : ℕ → α) (g h : ℕ) (hh : h < g) (hb : bot < v h) (h5 : countS v (v h) g ≤ 5) :
    ∃ k < 5, netS bot v g k = v h := by
  have h1 : 0 < countS v (v h) g := Finset.card_pos.2 ⟨h, by simp [hh]⟩
  refine ⟨countS v (v h) g - 1, by omega, le_antisymm ?_ ?_⟩
  · by_contra hlt
    rw [not_le] at hlt
    have h2 := (le_netS bot v _ (lt_trans hb hlt) g (countS v (v h) g - 1)).1 le_rfl
    have h3 : countS v (netS bot v g (countS v (v h) g - 1)) g < countS v (v h) g := by
      refine Finset.card_lt_card ⟨fun j hj => ?_, fun hsub => ?_⟩
      · rw [Finset.mem_filter] at hj ⊢
        exact ⟨hj.1, hlt.le.trans hj.2⟩
      · have := hsub (Finset.mem_filter.2 ⟨Finset.mem_range.2 hh, le_rfl⟩)
        exact absurd (Finset.mem_filter.1 this).2 (not_le.2 hlt)
    omega
  · exact (le_netS bot v _ hb g _).2 (by omega)

/-- One round over a pool `p` of threshold `t`: what equals the threshold becomes `bot`. -/
def strike {ι : Type*} (bot : α) (t : α) (p : ι → α) : ι → α := fun i => if p i = t then bot else p i

/-- The rounds list the largest values. Let `a 0 > a 1 > … > a n` all be in the pool `p`, none below `bot`, and let every
entry of the pool be `bot`, one of them, or at most `a n`. When each `t q` is the maximum of the `q`-th pool (`r 0 = p`,
each pool the one before with its maximum struck out), `t q = a q` for `q ≤ n`. -/
theorem threshold_eq {ι : Type*} (bot : α) (n : ℕ) (a : ℕ → α) (p : ι → α)
    (hlt : ∀ q q', q < q' → q' ≤ n → a q' < a q) (hbot : ∀ q ≤ n, bot ≤ a q)
    (hin : ∀ q ≤ n, ∃ i, p i = a q)
    (hout : ∀ i, p i = bot ∨ (∃ q ≤ n, p i = a q) ∨ p i ≤ a n)
    (r : ℕ → ι → α) (t : ℕ → α) (hr0 : r 0 = p) (hr : ∀ q, r (q + 1) = strike bot (t q) (r q))
    (ht : ∀ q c, t q ≤ c ↔ ∀ i, r q i ≤ c) : ∀ q ≤ n, t q = a q := by
  have hle : ∀ q q', q ≤ q' → q' ≤ n → a q' ≤ a q := fun q q' h h' => by
    rcases Nat.lt_or_eq_of_le h with h | rfl
    · exact (hlt q q' h h').le
    · exact le_rfl
  have key : ∀ q ≤ n, (∀ i, r q i ≤ a q) ∧ ∀ q', q ≤ q' → q' ≤ n → ∃ i, r q i = a q' := by
    intro q
    induction q with
    | zero =>
      intro _
      rw [hr0]
      refine ⟨fun i => ?_, fun q' _ h => hin q' h⟩
      rcases hout i with h | ⟨q, hq, h⟩ | h
      · rw [h]; exact hbot 0 (Nat.zero_le _)
      · rw [h]; exact hle 0 q (Nat.zero_le _) hq
      · exact h.trans (hle 0 n (Nat.zero_le _) le_rfl)
    | succ q ih =>
      intro hq
      obtain ⟨h1, h2⟩ := ih (by omega)
      have htq : t q = a q := by
        refine le_antisymm ((ht q _).2 h1) ?_
        obtain ⟨i, hi⟩ := h2 q le_rfl (by omega)
        rw [← hi]
        exact (ht q _).1 le_rfl i
      -- every entry of any pool is `bot` or an entry of `p`
      have hmem : ∀ q i, r q i = bot ∨ r q i = p i := by
        intro q i
        induction q with
        | zero => right; rw [hr0]
        | succ q ih =>
          rw [hr, strike]
          split
          · exact Or.inl rfl
          · exact ih
      rw [hr, htq]
      constructor
      · intro i
        unfold strike
        split
        · exact hbot _ hq
        · rename_i hne
          have hlt' := lt_of_le_of_ne (h1 i) hne
          rcases hmem q i with h | h
          · rw [h]; exact hbot _ hq
          · rcases hout i with h' | ⟨q', hq', h'⟩ | h'
            · rw [h, h']; exact hbot _ hq
            · rw [h, h'] at hlt' ⊢
              refine hle _ _ ?_ hq'
              by_contra hc
              exact absurd (hle q' q (by omega) (by omega)) (not_le.2 hlt')
            · rw [h]; exact h'.trans (hle _ _ hq le_rfl)
      · intro q' hq' hn
        obtain ⟨i, hi⟩ := h2 q' (by omega) hn
        refine ⟨i, ?_⟩
        rw [strike, hi, if_neg (hlt q q' (by omega) hn).ne]
  intro q hq
  obtain ⟨h1, h2⟩ := key q hq
  refine le_antisymm ((ht q _).2 h1) ?_
  obtain ⟨i, hi⟩ := h2 q le_rfl hq
  rw [← hi]
  exact (ht q _).1 le_rfl i

end Cert.Rank
-- ==== Proof.Row.lean ====
/- One row of the kernel: its 4096 similarities `s`, listed in descending order by the permutation `σ`. When the first 22
   are strictly descending and no lane holds more than five of the first 21, the thresholds are the first 21 of the list. -/
module

public import proofs.«01_k».proof.Proof.Rank
public import Mathlib.Data.Fintype.EquivFin

@[expose] public section

namespace Cert.Rank

variable {α : Type*} [LinearOrder α]

/-- Column `128 g + l`, for `g` below 32. -/
def col (g : ℕ) (l : Fin 128) : Fin 4096 := ⟨128 * (g % 32) + l.val, by omega⟩

/-- The values of lane `l`, in the order of the chunks. -/
def lane (s : Fin 4096 → α) (l : Fin 128) (g : ℕ) : α := s (col g l)

/-- The pool of a row: the first five entries of each lane's network. -/
def poolS (bot : α) (s : Fin 4096 → α) (k : ℕ) (l : Fin 128) : α := netS bot (lane s l) 32 k

/-- A row listed in descending order, its first 22 values strictly descending, with at most five of the first 21 in
any lane. -/
structure Listed (s : Fin 4096 → α) (σ : Fin 4096 → Fin 4096) : Prop where
  surj : Function.Surjective σ
  desc : ∀ p p', p ≤ p' → s (σ p') ≤ s (σ p)
  strict : ∀ q : Fin 21, s (σ ⟨q.val + 1, by omega⟩) < s (σ ⟨q.val, by omega⟩)
  spread : ∀ l : Fin 128, (Finset.univ.filter fun g : Fin 32 => s (σ 20) ≤ s (col g.val l)).card ≤ 5

variable {s : Fin 4096 → α} {σ : Fin 4096 → Fin 4096}

/-- The value of rank `q`. -/
def ranked (s : Fin 4096 → α) (σ : Fin 4096 → Fin 4096) (q : ℕ) : α := s (σ ⟨q % 4096, by omega⟩)

theorem ranked_eq (q : Fin 4096) : ranked s σ q.val = s (σ q) := by
  unfold ranked
  congr 2
  exact Fin.ext (Nat.mod_eq_of_lt q.isLt)

/-- Each of the first 21 values is above every later one. -/
theorem Listed.lt (h : Listed s σ) (q : ℕ) (hq : q ≤ 20) (p : Fin 4096) (hp : q < p.val) :
    s (σ p) < ranked s σ q := by
  have h1 := h.strict ⟨q, by omega⟩
  have h2 := h.desc ⟨q + 1, by omega⟩ p (Fin.le_def.2 (Nat.succ_le_of_lt hp))
  have h3 : ranked s σ q = s (σ ⟨q, by omega⟩) := ranked_eq (s := s) (σ := σ) ⟨q, by omega⟩
  rw [h3]
  exact lt_of_le_of_lt h2 h1

/-- The value of rank at most 20 is among the five entries of its lane. -/
theorem Listed.mem_pool (h : Listed s σ) (bot : α) (hb : ∀ j, bot < s j) (q : ℕ) (hq : q ≤ 20) :
    ∃ k < 5, ∃ l, poolS bot s k l = ranked s σ q := by
  set j := σ ⟨q % 4096, by omega⟩ with hj
  have hcol : ∀ (g : ℕ) (l : Fin 128), g < 32 → (col g l).val = 128 * g + l.val := by
    intro g l hg
    change 128 * (g % 32) + l.val = _
    rw [Nat.mod_eq_of_lt hg]
  have hjl : lane s ⟨j.val % 128, by omega⟩ (j.val / 128) = ranked s σ q := by
    unfold lane ranked
    rw [← hj]
    congr 1
    apply Fin.ext
    rw [hcol _ _ (by omega)]
    change 128 * (j.val / 128) + j.val % 128 = j.val
    omega
  have h20 : s (σ 20) ≤ ranked s σ q := h.desc ⟨q % 4096, by omega⟩ 20 (by
    rw [Fin.le_def]; change q % 4096 ≤ 20; omega)
  obtain ⟨k, hk, e⟩ := mem_netS bot (lane s ⟨j.val % 128, by omega⟩) 32 (j.val / 128) (by omega) (hb _) (by
    rw [hjl]
    refine le_trans ?_ (h.spread ⟨j.val % 128, by omega⟩)
    unfold countS
    refine Finset.card_le_card_of_injOn (fun g => ⟨g % 32, by omega⟩) ?_ ?_
    · intro g hg
      simp only [Finset.coe_filter, Finset.mem_range, Set.mem_setOf_eq, Finset.mem_univ, true_and] at hg ⊢
      refine h20.trans ?_
      rw [Nat.mod_eq_of_lt hg.1]
      exact hg.2
    · intro g hg g' hg' heq
      simp only [Finset.coe_filter, Finset.mem_range, Set.mem_setOf_eq] at hg hg'
      have := congrArg Fin.val heq
      simp only at this
      omega)
  exact ⟨k, hk, _, e.trans hjl⟩

/-- Every entry of the pool is the start or a value of the row. -/
theorem pool_mem (bot : α) (k : ℕ) (l : Fin 128) : poolS bot s k l = bot ∨ ∃ j, poolS bot s k l = s j :=
  (netS_mem bot (lane s l) 32 k).imp id fun ⟨g, _, e⟩ => ⟨col g l, e⟩

/-- The thresholds of the rounds over the row's pool are its 21 largest values, in order. -/
theorem Listed.threshold {ι : Type*} (h : Listed s σ) (bot : α) (hb : ∀ j, bot < s j) (e : ι → Fin 5 × Fin 128)
    (he : Function.Surjective e) (r : ℕ → ι → α) (t : ℕ → α)
    (hr0 : ∀ i, r 0 i = poolS bot s (e i).1.val (e i).2) (hr : ∀ q, r (q + 1) = strike bot (t q) (r q))
    (ht : ∀ q c, t q ≤ c ↔ ∀ i, r q i ≤ c) : ∀ q ≤ 20, t q = ranked s σ q := by
  refine threshold_eq bot 20 (ranked s σ) (r 0) ?_ ?_ ?_ ?_ r t rfl hr ht
  · intro q q' hlt hq'
    have := h.lt q (by omega) ⟨q', by omega⟩ hlt
    rwa [← ranked_eq (s := s) (σ := σ)] at this
  · exact fun q _ => (hb _).le
  · intro q hq
    obtain ⟨k, hk, l, hl⟩ := h.mem_pool bot hb q hq
    obtain ⟨i, hi⟩ := he (⟨k, hk⟩, l)
    exact ⟨i, by rw [hr0, hi]; exact hl⟩
  · intro i
    rw [hr0]
    rcases pool_mem (s := s) bot (e i).1.val (e i).2 with h' | ⟨j, h'⟩
    · exact Or.inl h'
    · right
      obtain ⟨p, rfl⟩ := h.surj j
      rw [h']
      by_cases hp : p.val ≤ 20
      · exact Or.inl ⟨p.val, hp, (ranked_eq p).symm⟩
      · exact Or.inr (h.lt 20 le_rfl p (by omega)).le

/-- The element of rank `p` is below the threshold of rank `q` exactly when `q < p`. -/
theorem Listed.lt_iff (h : Listed s σ) (p : Fin 4096) (q : ℕ) (hq : q ≤ 20) : s (σ p) < ranked s σ q ↔ q < p.val := by
  refine ⟨fun hlt => ?_, h.lt q hq p⟩
  by_contra hc
  have := h.desc p ⟨q % 4096, by omega⟩ (by rw [Fin.le_def]; change p.val ≤ q % 4096; omega)
  exact absurd this (not_le.2 hlt)

end Cert.Rank
-- ==== Proof.Consts.lean ====
/- The float constants of the programs, as extended reals. -/
module

public import Idealize.ShloMosaic.PureOps.Ideal
public import Idealize.ShloMosaic.Lib.IdealHost

@[expose] public section

namespace Cert.Consts

open Idealize.ShloMosaic

/-- The floor of a norm, `1e-12` in single precision. -/
theorem floor_eq : Ideal.ofBits .f32 0x2B8CBCCC#32 = ((9223372 * 2 ^ (-63 : ℤ) : ℝ) : EReal) := by
  simp [Ideal.ofBits, Ideal.ieee, -EReal.coe_mul]

/-- The small number added to a sum of weights, `1e-8` in single precision. -/
theorem small_eq : Ideal.ofBits .f32 0x322BCC77#32 = ((11258999 * 2 ^ (-50 : ℤ) : ℝ) : EReal) := by
  simp [Ideal.ofBits, Ideal.ieee, -EReal.coe_mul]

/-- The start of the networks, `-3e38` in single precision. -/
theorem neg_eq : Ideal.ofBits .f32 0xFF61B1E6#32 = ((-14791142 * 2 ^ (104 : ℤ) : ℝ) : EReal) := by
  simp [Ideal.ofBits, Ideal.ieee, -EReal.coe_mul, -EReal.coe_neg]

/-- The start of a row's maximum, minus infinity. -/
theorem bot_eq : Ideal.ofBits .f32 0xFF800000#32 = ⊥ := by
  simp [Ideal.ofBits, Ideal.ieee]

/-- Five. -/
theorem five_eq : Ideal.ofBits .f32 0x40A00000#32 = ((5 : ℝ) : EReal) := by
  simp [Ideal.ofBits, Ideal.ieee, -EReal.coe_mul]; norm_num

end Cert.Consts
-- ==== Proof.Sims.lean ====
/- The similarities of the rows: each row divided by its norm (at least the floor), then the inner products. Every one is
   a real number between -16 and 16, whatever the rows hold, infinities included. -/
module

public import proofs.«01_k».proof.Proof.Consts

@[expose] public section

noncomputable section

namespace Cert.Sims

open Idealize.ShloMosaic

/-- Entry `k` of row `i`, divided by the row's norm or the floor, whichever is larger. -/
def unit (x : Fin 4096 → Fin 16 → EReal) (i : Fin 4096) (k : Fin 16) : EReal :=
  Ideal.div (x i k) (max (Ideal.sqrt (∑ k, x i k * x i k)) (Ideal.ofBits .f32 0x2B8CBCCC#32))

/-- The similarity of rows `i` and `j`. -/
def sim (x : Fin 4096 → Fin 16 → EReal) (i j : Fin 4096) : EReal := ∑ k, unit x i k * unit x j k

/-- A finite sum of real numbers, taken among the extended reals. -/
theorem coe_sum {ι : Type*} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A square is not below zero. -/
theorem sq_nonneg (a : EReal) : 0 ≤ a * a := by
  rcases le_total 0 a with h | h
  · exact mul_nonneg h h
  · rw [← neg_mul_neg]
    exact mul_nonneg (EReal.neg_nonneg.2 h) (EReal.neg_nonneg.2 h)

/-- An entry divided by its row's norm is a real number of size at most one. -/
theorem unit_real (x : Fin 4096 → Fin 16 → EReal) (i : Fin 4096) (k : Fin 16) :
    ∃ r : ℝ, unit x i k = (r : EReal) ∧ |r| ≤ 1 := by
  have hfl : (0 : ℝ) < 9223372 * 2 ^ (-63 : ℤ) := by positivity
  unfold unit
  rw [Consts.floor_eq]
  generalize (9223372 * 2 ^ (-63 : ℤ) : ℝ) = c at hfl
  by_cases hfin : ∀ k, ∃ r : ℝ, x i k = (r : EReal)
  · choose y hy using hfin
    have hs : ∑ k, x i k * x i k = ((∑ k, y k * y k : ℝ) : EReal) := by
      rw [coe_sum]
      exact Finset.sum_congr rfl fun k _ => by rw [hy, EReal.coe_mul]
    have hn : (0 : ℝ) ≤ ∑ k, y k * y k := Finset.sum_nonneg fun k _ => mul_self_nonneg _
    rw [hs, Ideal.sqrt_coe, if_neg (not_lt.2 hn), ← EReal.coe_strictMono.monotone.map_max, hy k]
    have hM : 0 < max (Real.sqrt (∑ k, y k * y k)) c := lt_max_of_lt_right hfl
    rw [Ideal.div_coe hM.ne', ← EReal.coe_mul]
    refine ⟨_, rfl, ?_⟩
    rw [abs_mul, abs_of_pos (one_div_pos.2 hM), mul_one_div, div_le_one hM]
    refine le_trans ?_ (le_max_left _ _)
    refine Real.abs_le_sqrt ?_
    rw [pow_two]
    exact Finset.single_le_sum (f := fun k => y k * y k) (fun k _ => mul_self_nonneg _) (Finset.mem_univ k)
  · push Not at hfin
    obtain ⟨k', hk'⟩ := hfin
    have hsq : x i k' * x i k' = ⊤ := by
      induction h : x i k' with
      | bot => rfl
      | top => rfl
      | coe r => exact absurd h (hk' r)
    have hs : ∑ k, x i k * x i k = ⊤ := by
      refine top_le_iff.1 ?_
      rw [← hsq]
      exact Finset.single_le_sum (f := fun k => x i k * x i k) (fun k _ => sq_nonneg _) (Finset.mem_univ k')
    rw [hs]
    refine ⟨0, ?_, by simp⟩
    have : max (Ideal.sqrt ⊤) ((c : ℝ) : EReal) = ⊤ := by
      rw [show Ideal.sqrt ⊤ = ⊤ from rfl]; exact max_eq_left le_top
    rw [this, Ideal.div, if_neg EReal.top_ne_zero, EReal.inv_top, mul_zero, EReal.coe_zero]

/-- Every similarity is above the networks' start. -/
theorem neg_lt_sim (x : Fin 4096 → Fin 16 → EReal) (i j : Fin 4096) :
    Ideal.ofBits .f32 0xFF61B1E6#32 < sim x i j := by
  choose y hy hy1 using unit_real x i
  choose z hz hz1 using unit_real x j
  have hs : sim x i j = ((∑ k, y k * z k : ℝ) : EReal) := by
    unfold sim
    rw [coe_sum]
    exact Finset.sum_congr rfl fun k _ => by rw [hy, hz, EReal.coe_mul]
  rw [hs, Consts.neg_eq, EReal.coe_lt_coe_iff]
  have h1 : ∑ _k : Fin 16, (-1 : ℝ) ≤ ∑ k, y k * z k := by
    refine Finset.sum_le_sum fun k _ => ?_
    have := mul_le_one₀ (hy1 k) (abs_nonneg _) (hz1 k)
    rw [← abs_mul] at this
    exact (abs_le.1 this).1
  refine lt_of_lt_of_le ?_ h1
  simp
  norm_num

end Cert.Sims
-- ==== Proof.Weights.lean ====
/- The weight steps on one element: starting at the first weight over the denominator and adding the differences of
   consecutive weights (two at a time) up to the element's rank gives the weight of that rank over the denominator. -/
module

public import proofs.«01_k».proof.Proof.Sims

@[expose] public section

noncomputable section

namespace Cert.Weights

open Idealize.ShloMosaic

/-- The accumulated weight of an element after `p` steps; `below q` says that the element lies under threshold `q`. -/
def stepsS (below : ℕ → Prop) [DecidablePred below] (wt : ℕ → EReal) (d : EReal) : ℕ → EReal
  | 0 => Ideal.div (wt 0) d
  | p + 1 => stepsS below wt d p +
      if below (2 * p + 1) then Ideal.div (wt (2 * p + 2) - wt (2 * p)) d
      else if below (2 * p) then Ideal.div (wt (2 * p + 1) - wt (2 * p)) d else 0

/-- The terms of a sum that is a real number are real numbers. -/
theorem real_of_add {a b : EReal} {r : ℝ} (h : a + b = (r : EReal)) :
    (∃ s : ℝ, a = (s : EReal)) ∧ ∃ s : ℝ, b = (s : EReal) := by
  induction a with
  | bot => rw [EReal.bot_add] at h; exact absurd h.symm (EReal.coe_ne_bot r)
  | top =>
    induction b with
    | bot => rw [EReal.add_bot] at h; exact absurd h.symm (EReal.coe_ne_bot r)
    | top => exact absurd h.symm (EReal.coe_ne_top r)
    | coe s => rw [EReal.top_add_coe] at h; exact absurd h.symm (EReal.coe_ne_top r)
  | coe s =>
    refine ⟨⟨s, rfl⟩, ?_⟩
    induction b with
    | bot => rw [EReal.add_bot] at h; exact absurd h.symm (EReal.coe_ne_bot r)
    | top => rw [EReal.coe_add_top] at h; exact absurd h.symm (EReal.coe_ne_top r)
    | coe s' => exact ⟨s', rfl⟩

/-- The same, of a finite sum. -/
theorem real_of_sum {ι : Type*} (t : Finset ι) (f : ι → EReal) (r : ℝ) (h : ∑ k ∈ t, f k = (r : EReal)) :
    ∀ k ∈ t, ∃ s : ℝ, f k = (s : EReal) := by
  classical
  induction t using Finset.induction_on generalizing r with
  | empty => simp
  | insert a t ha ih =>
    rw [Finset.sum_insert ha] at h
    obtain ⟨h1, s, h2⟩ := real_of_add h
    intro k hk
    rcases Finset.mem_insert.1 hk with rfl | hk
    · exact h1
    · exact ih s h2 k hk

/-- A number over an infinity is zero. -/
theorem div_inf {d : EReal} (h : d = ⊤ ∨ d = ⊥) (a : EReal) : Ideal.div a d = 0 := by
  rcases h with rfl | rfl
  · rw [Ideal.div, if_neg EReal.top_ne_zero, EReal.inv_top, mul_zero]
  · rw [Ideal.div, if_neg EReal.bot_ne_zero, EReal.inv_bot, mul_zero]

/-- After ten steps an element of rank `P`, below the thresholds of smaller rank and no others, holds the weight of its
rank over the denominator: the sum of the 21 weights and a real number, when that is not zero. -/
theorem stepsS_eq (below : ℕ → Prop) [DecidablePred below] (wt : ℕ → EReal) (c : ℝ) (d : EReal)
    (hd : d = ∑ r : Fin 21, wt r.val + (c : EReal)) (h0 : d ≠ 0) (P : ℕ) (hP : P ≤ 20)
    (hb : ∀ q ≤ 20, below q ↔ q < P) : stepsS below wt d 10 = Ideal.div (wt P) d := by
  by_cases hr : ∃ r : ℝ, d = (r : EReal)
  · obtain ⟨r, rfl⟩ := hr
    have hr0 : r ≠ 0 := fun h => h0 (by rw [h, EReal.coe_zero])
    obtain ⟨s, hs⟩ := (real_of_add hd.symm).1
    have hw := real_of_sum _ _ s hs
    have hw' : ∀ q ≤ 20, ∃ s : ℝ, wt q = (s : EReal) := fun q hq => hw ⟨q, by omega⟩ (Finset.mem_univ _)
    -- `v q` the real weight of rank `q`
    obtain ⟨v, hv⟩ : ∃ v : ℕ → ℝ, ∀ q ≤ 20, wt q = (v q : EReal) := by
      choose f hf using hw'
      exact ⟨fun q => if h : q ≤ 20 then f q h else 0, fun q hq => by rw [hf q hq]; simp [hq]⟩
    have key : ∀ p ≤ 10, stepsS below wt (r : EReal) p = ((v (min P (2 * p)) * (1 / r) : ℝ) : EReal) := by
      intro p
      induction p with
      | zero =>
        intro _
        rw [stepsS, Ideal.div_coe hr0, hv 0 (by omega), ← EReal.coe_mul, Nat.mul_zero, Nat.min_zero]
      | succ p ih =>
        intro hp
        rw [stepsS, ih (by omega), hv (2 * p + 2) (by omega), hv (2 * p) (by omega), hv (2 * p + 1) (by omega)]
        simp only [hb (2 * p + 1) (by omega), hb (2 * p) (by omega), Ideal.div_coe hr0, ← EReal.coe_sub, ← EReal.coe_mul]
        split
        · rw [← EReal.coe_add, Nat.min_eq_right (by omega), Nat.min_eq_right (by omega)]
          rw [Nat.mul_add]
          congr 1
          ring
        · split
          · rw [← EReal.coe_add, Nat.min_eq_right (by omega), show min P (2 * (p + 1)) = 2 * p + 1 by omega]
            congr 1
            ring
          · rw [add_zero, Nat.min_eq_left (by omega), Nat.min_eq_left (by omega)]
    rw [key 10 le_rfl, Nat.min_eq_left (by omega), hv P hP, Ideal.div_coe hr0, ← EReal.coe_mul]
  · have hinf : d = ⊤ ∨ d = ⊥ := by
      induction d with
      | bot => exact Or.inr rfl
      | top => exact Or.inl rfl
      | coe r => exact absurd ⟨r, rfl⟩ hr
    have key : ∀ p, stepsS below wt d p = 0 := by
      intro p
      induction p with
      | zero => exact div_inf hinf _
      | succ p ih => rw [stepsS, ih, div_inf hinf, div_inf hinf]; simp
    rw [key, div_inf hinf]

end Cert.Weights
-- ==== Proof.BlockRead.lean ====
/- The kernel's block read at one element, over the extended reals: each row's network and rounds are the ones of
   `Cert.Rank`, so on a listed row the thresholds are the row's 21 largest similarities, and the block holds at an element
   of rank `P` the weight of that rank over the denominator, and zero at the others. -/
module

public import proofs.«01_k».proof.Proof.Block
public import proofs.«01_k».proof.Proof.Row
public import proofs.«01_k».proof.Proof.Weights
public import Idealize.ShloMosaic.Lib.Pointwise

@[expose] public section

noncomputable section

namespace Cert.Block

open Idealize.ShloMosaic Idealize.ShloMosaic.Pointwise
open Cert.KernelIdeal Cert.Rank Cert.Weights

/-- The start of the networks, as an extended real. -/
abbrev negI : EReal := Ideal.ofBits .f32 0xFF61B1E6#32

/-- Chunk `g` at lane `l` is the column `128 g + l`. -/
theorem chunk_at (s : FVec Ideal S256x4096 .f32) (g : ℕ) (r : Fin 256) (l : Fin 128) :
    chunk s g (ix2 r l) = s (ix2 r (col g l)) := by
  unfold chunk
  pointwise
  rfl

/-- The carried value at an element. -/
theorem carry_at (t : ℕ → FVec Ideal S256x128 .f32) (v : FVec Ideal S256x128 .f32) (k : ℕ) (i : S256x128.Idx) :
    carry t v k i = carryS (α := EReal) (fun k => t k i) (v i) k := by
  induction k with
  | zero => rfl
  | succ k ih => rw [carry, carryS, ← ih]; rfl

/-- The network at an element is the network of its lane. -/
theorem net_at (s : FVec Ideal S256x4096 .f32) (g k : ℕ) (r : Fin 256) (l : Fin 128) :
    net s g k (ix2 r l) = netS negI (lane (fun j => s (ix2 r j)) l) g k := by
  induction g generalizing k with
  | zero => rfl
  | succ g ih =>
    rw [net, netS, ← ih]
    have h : (fun k => net s g k (ix2 r l)) = netS negI (lane (fun j => s (ix2 r j)) l) g := funext ih
    rw [← h]
    change max _ (carry (net s g) (chunk s g) k (ix2 r l)) = _
    rw [carry_at, chunk_at]
    rfl

/-- The pool at column `i`: entry `i / 128` of lane `i % 128`. -/
theorem pool_at (s : FVec Ideal S256x4096 .f32) (r : Fin 256) (i : Fin 640) :
    pool s (ix2 r i) = poolS negI (fun j => s (ix2 r j)) (i.val / 128) ⟨i.val % 128, Nat.mod_lt _ (by decide)⟩ := by
  have hk : ∀ (k : ℕ) (l : Fin 128), i.val = 128 * k + l.val →
      net s 32 k (ix2 r l)
        = poolS negI (fun j => s (ix2 r j)) (i.val / 128) ⟨i.val % 128, Nat.mod_lt _ (by decide)⟩ := by
    intro k l h
    have h1 : i.val / 128 = k := by omega
    have h2 : (⟨i.val % 128, Nat.mod_lt _ (by decide)⟩ : Fin 128) = l := Fin.ext (by simp only; omega)
    rw [net_at, h1, h2]
    rfl
  unfold pool
  pointwise
  split
  · exact hk 0 ⟨i.val, by omega⟩ (by simp only; omega)
  split
  · exact hk 1 ⟨i.val - 128, by omega⟩ (by simp only; omega)
  split
  · exact hk 2 ⟨i.val - 128 - 128, by omega⟩ (by simp only; omega)
  split
  · exact hk 3 ⟨i.val - 128 - 128 - 128, by omega⟩ (by simp only; omega)
  · exact hk 4 ⟨i.val - 128 - 128 - 128 - 128, by omega⟩ (by simp only; omega)

/-- A row's maximum is the least bound of the row. -/
theorem rowMax_le (p : FVec Ideal S256x640 .f32) (r : Fin 256) (c : EReal) :
    rowMax p (ix2 r 0) ≤ c ↔ ∀ i : Fin 640, p (ix2 r i) ≤ c := by
  unfold rowMax
  pointwise
  rw [Consts.bot_eq, Finset.fold_max_le]
  simp

/-- One round at an element. -/
theorem rounds_at (p : FVec Ideal S256x640 .f32) (q : ℕ) (r : Fin 256) :
    (fun i : Fin 640 => rounds p (q + 1) (ix2 r i))
      = strike (α := EReal) negI (thr p q (ix2 r 0)) (fun i => rounds p q (ix2 r i)) := by
  funext i
  unfold strike thr
  rw [rounds]
  pointwise
  rfl

/-- On a listed row the thresholds are its 21 largest similarities. -/
theorem thr_at (s : FVec Ideal S256x4096 .f32) (r : Fin 256) (σ : Fin 4096 → Fin 4096)
    (h : Listed (α := EReal) (fun j => s (ix2 r j)) σ) (hb : ∀ j, negI < s (ix2 r j)) (q : ℕ) (hq : q ≤ 20) :
    thr (pool s) q (ix2 r 0) = ranked (α := EReal) (fun j => s (ix2 r j)) σ q := by
  refine h.threshold negI hb
    (fun i : Fin 640 => (⟨i.val / 128, by omega⟩, ⟨i.val % 128, Nat.mod_lt _ (by decide)⟩)) ?_
    (fun q i => rounds (pool s) q (ix2 r i)) (fun q => thr (pool s) q (ix2 r 0)) ?_ ?_ ?_ q hq
  · rintro ⟨k, l⟩
    refine ⟨⟨128 * k.val + l.val, by omega⟩, ?_⟩
    refine Prod.ext (Fin.ext ?_) (Fin.ext ?_)
    · simp only; omega
    · simp only; omega
  · exact fun i => pool_at s r i
  · exact fun q => rounds_at (pool s) q r
  · exact fun q c => rowMax_le _ r c

/-- The weight steps at an element. -/
theorem steps_at (s : FVec Ideal S256x4096 .f32) (m : ℕ → FVec Ideal S256x1 .f32) (wt : ℕ → EReal) (d : EReal) (p : ℕ)
    (r : Fin 256) (j : Fin 4096) :
    steps s m wt d p (ix2 r j)
      = stepsS (fun q => (s (ix2 r j) : EReal) < m q (ix2 r 0)) wt d p := by
  induction p with
  | zero => rfl
  | succ p ih =>
    rw [steps, stepsS, ← ih]
    pointwise

/-- The block at the element of rank `p` of a listed row: the weight of rank `p` over the denominator for `p ≤ 20`, zero
for the others. -/
theorem blockOf_at (s : FVec Ideal S256x4096 .f32) (wt : ℕ → EReal) (c : ℝ) (d : EReal)
    (hd : d = ∑ r : Fin 21, wt r.val + (c : EReal)) (h0 : d ≠ 0) (r : Fin 256) (σ : Fin 4096 → Fin 4096)
    (h : Listed (α := EReal) (fun j => s (ix2 r j)) σ) (hb : ∀ j, negI < s (ix2 r j)) (p : Fin 4096) :
    blockOf s wt d (ix2 r (σ p)) = if p.val ≤ 20 then Ideal.div (wt p.val) d else 0 := by
  have ht := thr_at s r σ h hb
  have h1 : blockOf s wt d (ix2 r (σ p))
      = if (thr (pool s) 20 (ix2 r 0) : EReal) ≤ s (ix2 r (σ p)) then steps s (thr (pool s)) wt d 10 (ix2 r (σ p)) else 0 := by
    unfold blockOf
    pointwise
  rw [h1, ht 20 le_rfl]
  have h2 := h.lt_iff p 20 le_rfl
  by_cases hp : p.val ≤ 20
  · rw [if_pos hp, if_pos (not_lt.1 fun hlt => absurd (h2.1 hlt) (by omega)), steps_at]
    refine stepsS_eq _ wt c d hd h0 p.val hp fun q hq => ?_
    rw [ht q hq]
    exact h.lt_iff p q hq
  · rw [if_neg hp, if_neg (not_le.2 (h2.2 (by omega)))]

end Cert.Block
-- ==== Proof.Array.lean ====
/- The kernel's result array: row block `t` of it is the block of the similarities of the rows `256 t` to `256 t + 255` to
   all rows, the scratch holding the normalised rows at every grid point. -/
module

public import proofs.«01_k».proof.Proof.BlockRead
public import Idealize.ShloMosaic.Lib.StableHlo.ReadAt

@[expose] public section

noncomputable section

namespace Cert.Block

open Idealize.ShloMosaic Idealize.ShloMosaic.TcCoe Idealize.ShloMosaic.Pointwise
open Cert.KernelIdeal Cert.KernelIdeal.Gen Cert.KernelIdeal.Value

section Any

variable {F : FTy → Type} [FloatOps F]
variable (m : (ℓ : Loc nD τ sig) → Buf (Elt F) ℓ)

/-- The rows, as launched. -/
abbrev rowsOf (c : Dev nD) : Vec F S4096x16 .f32 := m ((c : Thread nD τ).loc main_arg0)

/-- The weights, as launched. -/
abbrev weightsOf (c : Dev nD) : Vec F S21 .f32 := m ((c : Thread nD τ).loc main_arg1)

/-- The first window's block at point `t`: the rows from `256 t` on. -/
theorem iblk0_at (c : Dev nD) (t : Fin cfg0.N) (r : Fin 256) (k : Fin 16) (i : Fin 4096) (hi : i.val = 256 * t.val + r.val) :
    (iblk m c 0 t : Vec F S256x16 .f32) (ix2 r k) = rowsOf m c (ix2 i k) := by
  have h : win0_0.index t 0 = t.val ∧ win0_0.index t 1 = 0 :=
    (by decide +kernel : ∀ t : Fin grid0.N, win0_0.index t 0 = t.val ∧ win0_0.index t 1 = 0) t
  unfold iblk
  rw [View.read_apply]
  change V m c main_arg0 _ = _
  rw [V_main_arg0]
  congr 1
  funext a
  apply Fin.ext
  match a with
  | ⟨0, _⟩ => change win0_0.index t 0 * 256 + 1 * r.val = i.val; rw [h.1, hi]; omega
  | ⟨1, _⟩ => change win0_0.index t 1 * 16 + 1 * k.val = k.val; rw [h.2]; omega

/-- The second window's block: all rows. -/
theorem iblk1_eq (c : Dev nD) (t : Fin cfg0.N) : (iblk m c 1 t : Vec F S4096x16 .f32) = rowsOf m c := by
  have h : win0_1.index t 0 = 0 ∧ win0_1.index t 1 = 0 :=
    (by decide +kernel : ∀ t : Fin grid0.N, win0_1.index t 0 = 0 ∧ win0_1.index t 1 = 0) t
  funext j
  unfold iblk
  rw [View.read_apply]
  change V m c main_arg0 _ = _
  rw [V_main_arg0]
  congr 1
  funext a
  apply Fin.ext
  match a with
  | ⟨0, _⟩ => change win0_1.index t 0 * 4096 + 1 * (j 0).val = (j 0).val; rw [h.1]; omega
  | ⟨1, _⟩ => change win0_1.index t 1 * 16 + 1 * (j 1).val = (j 1).val; rw [h.2]; omega

/-- The weights as one row, when the launch begins. -/
theorem v0_at (c : Dev nD) (q : Fin 21) : V m c main_v0 (ix2 0 q) = weightsOf m c (ix1 q) := by
  unfold V
  after_reads_at

/-- The third window's block: the weights. -/
theorem iblk2_at (c : Dev nD) (t : Fin cfg0.N) (q : Fin 21) :
    (iblk m c 2 t : Vec F S1x21 .f32) (ix2 0 q) = weightsOf m c (ix1 q) := by
  have h : win0_2.index t 0 = 0 ∧ win0_2.index t 1 = 0 :=
    (by decide +kernel : ∀ t : Fin grid0.N, win0_2.index t 0 = 0 ∧ win0_2.index t 1 = 0) t
  unfold iblk
  rw [View.read_apply, ← v0_at]
  change V m c main_v0 _ = _
  congr 1
  funext a
  apply Fin.ext
  match a with
  | ⟨0, _⟩ => change win0_2.index t 0 * 1 + 1 * 0 = 0; rw [h.1]
  | ⟨1, _⟩ => change win0_2.index t 1 * 21 + 1 * q.val = q.val; rw [h.2]; omega

/-- After every point the scratch holds the normalised rows. -/
theorem scratch_eq (c : Dev nD) (n : ℕ) (hn : n < cfg0.N) : (outsAt0 m c n hn).2 = k0_pay2 (rowsOf m c) := by
  induction n with
  | zero =>
    rw [outsAt0_A m c ⟨0, hn⟩ (Nat.zero_mod _)]
    dsimp only
    rw [sout_A, iblk1_eq]
  | succ n ih =>
    have hN : cfg0.N = 16 := N_0
    have hB : ¬(⟨n + 1, hn⟩ : Fin cfg0.N).val % 16 = 0 := by dsimp only; omega
    rw [outsAt0_B m c ⟨n + 1, hn⟩ hB]
    exact ih (Nat.lt_of_succ_lt hn)

/-- What point `t` leaves in the result's block. -/
theorem block_eq (c : Dev nD) (t : Fin cfg0.N) :
    (outsAt0 m c t.val t.isLt).1
      = blockOf (k0_pay3 (iblk m c 0 t) (k0_pay2 (rowsOf m c))) (wgt (iblk m c 2 t)) (denom (iblk m c 2 t)) := by
  by_cases h : t.val % 16 = 0
  · rw [outsAt0_A m c t h]
    dsimp only
    rw [out_A, iblk1_eq]
  · rw [outsAt0_B m c t h]
    dsimp only
    rw [out_B, scratch_eq]

/-- The result array at an element of row block `t`. -/
theorem array_at (c : Dev nD) (t : Fin cfg0.N) (r : Fin 256) (i j : Fin 4096) (hi : i.val = 256 * t.val + r.val) :
    G3 m c (ix2 i j)
      = blockOf (k0_pay3 (iblk m c 0 t) (k0_pay2 (rowsOf m c))) (wgt (iblk m c 2 t)) (denom (iblk m c 2 t)) (ix2 r j) := by
  have hN : cfg0.N = 16 := N_0
  have hp : pt3Of (ix2 i j) = t.val := by
    change 1 * (i.val / 256 - 0) + 1 * (j.val / 4096 - 0) = t.val
    omega
  have hl : loc3Of (ix2 i j) = ix2 r j := by
    funext a
    apply Fin.ext
    match a with
    | ⟨0, _⟩ => change i.val % 256 = r.val; omega
    | ⟨1, _⟩ => change j.val % 4096 = j.val; omega
  unfold G3
  rw [dif_pos (by rw [hp]; exact t.isLt), hl, ← block_eq, outsAt0_sweep m c t.val t.isLt]
  exact congrFun (congrArg Prod.fst (fold0_congr m c _ _ _ _ hp)) _

end Any

variable (m : (ℓ : Loc nD τ sig) → Buf (Elt Ideal) ℓ)

/-- The rows as numbers. -/
abbrev xs (c : Dev nD) (i : Fin 4096) (k : Fin 16) : EReal := rowsOf m c (ix2 i k)

/-- The weights as numbers. -/
abbrev ws (c : Dev nD) (r : ℕ) : EReal := weightsOf m c (ix1 ⟨r % 21, Nat.mod_lt _ (by decide)⟩)

/-- The similarities the kernel takes. -/
theorem sims_at (c : Dev nD) (t : Fin cfg0.N) (r : Fin 256) (i j : Fin 4096) (hi : i.val = 256 * t.val + r.val) :
    k0_pay3 (iblk m c 0 t) (k0_pay2 (rowsOf m c)) (ix2 r j) = Sims.sim (xs m c) i j := by
  have h := fun k => iblk0_at m c t r k i hi
  pointwise [k0_pay3, k0_pay2]
  simp only [h]
  rfl

/-- The denominator. -/
theorem denom_at (w : Vec Ideal S1x21 .f32) :
    denom w = ∑ q : Fin 21, (w (ix2 0 q) : EReal) + Ideal.ofBits .f32 0x322BCC77#32 := by
  pointwise [denom, k0_pay269]

end Cert.Block
-- ==== Proof.Order.lean ====
/- The order in which a top-k of a row lists its elements: by decreasing value, equal ones by their place. -/
module

public import proofs.«01_k».proof.Proof.Row
public import Idealize.ShloMosaic.Lib.SortFacts
public import Idealize.ShloMosaic.Lib.Pointwise

@[expose] public section

noncomputable section

namespace Cert.Order

open Idealize.ShloMosaic Idealize.ShloMosaic.Pointwise

variable {N : ℕ}

/-- Place `p` of a row in decreasing order. -/
def order (s : Fin N → EReal) : Fin N → Fin N :=
  sortedFrom fun k k' => Ideal.cmp CmpDirection.gt.ordered (s k) (s k') == 1#1

/-- The order's comparison. -/
theorem before_iff (a b : EReal) : (Ideal.cmp CmpDirection.gt.ordered a b == 1#1) = true ↔ b < a := by
  change (Ideal.cmp .ogt a b == 1#1) = true ↔ _
  unfold Ideal.cmp
  by_cases h : b < a <;> simp [h]

/-- Every element has a place. -/
theorem order_surjective (s : Fin N → EReal) : Function.Surjective (order s) := sortedFrom_surjective _

/-- No element has two. -/
theorem order_injective (s : Fin N → EReal) : Function.Injective (order s) := sortedFrom_injective _

/-- The values decrease along the order. -/
theorem order_le (s : Fin N → EReal) (p p' : Fin N) (h : p ≤ p') : s (order s p') ≤ s (order s p) := by
  rcases h.eq_or_lt with rfl | h
  · exact le_rfl
  have hB : ∀ a b : Fin N, (Ideal.cmp CmpDirection.gt.ordered (s a) (s b) == 1#1) = false ↔ s a ≤ s b := fun a b => by
    rw [← not_lt, ← before_iff, Bool.not_eq_true]
  have key := sortedFrom_noInversion (fun k k' => Ideal.cmp CmpDirection.gt.ordered (s k) (s k') == 1#1)
    (fun k k' => Ideal.cmp CmpDirection.gt.ordered (s k) (s k') == 1#1)
    (fun a b hab => (hB b a).2 ((before_iff _ _).1 hab).le) (fun _ _ h => h)
    (fun a b c hab hbc => (hB a c).2 (((hB a b).1 hab).trans ((hB b c).1 hbc))) p p' h
  exact (hB _ _).1 key

variable {n : ℕ}

/-- A top-k of the rows of a square matrix, read at place `q`: the value there, and its column. -/
theorem topK_at (a : FVec Ideal ⟨2, ![N, N]⟩ .f32)
    (h : (⟨2, ![N, N]⟩ : Shape).Slices (fun _ => 0) ⟨2, ![N, n]⟩) (i : Fin N) (q : Fin n) (p : Fin N)
    (hp : p.val = q.val) :
    (Host.topK ⟨2, ![N, n]⟩ 1 (FloatOps.cmpfTotal .gt) a h).1 (ix2 i q)
        = a (ix2 i (order (fun j => a (ix2 i j)) p))
      ∧ (Host.topK ⟨2, ![N, n]⟩ 1 (FloatOps.cmpfTotal .gt) a h).2 (ix2 i q)
        = BitVec.ofNat 32 (order (fun j => a (ix2 i j)) p).val := by
  have hj : (fun b : Fin 2 => (⟨0 + ((ix2 i q) (b.cast h.1.symm)).val,
      Nat.lt_of_lt_of_le (Nat.add_lt_add_left ((ix2 i q) _).isLt _) (h.2 b)⟩ : Fin ((⟨2, ![N, N]⟩ : Shape).size b)))
        = ix2 i p := by
    funext b
    apply Fin.ext
    match b with
    | ⟨0, _⟩ => exact Nat.zero_add i.val
    | ⟨1, _⟩ => exact (Nat.zero_add q.val).trans hp.symm
  have hal : (fun k : Fin N => Shape.Idx.along (s := (⟨2, ![N, N]⟩ : Shape)) (ix2 i p) (1 : Fin 2) k)
      = fun k => ix2 i k := by
    funext k b
    unfold Shape.Idx.along
    match b with
    | ⟨0, _⟩ => rfl
    | ⟨1, _⟩ => rfl
  unfold Host.topK extractStridedSlice
  dsimp only
  rw [hj]
  unfold Host.sort2
  rw [dif_pos (show 1 < (⟨2, ![N, N]⟩ : Shape).rank from Nat.one_lt_two)]
  refine ⟨congrArg (fun al : Fin N → (⟨2, ![N, N]⟩ : Shape).Idx =>
      a (al (sortedFrom (fun k k' => Ideal.cmp CmpDirection.gt.ordered (a (al k)) (a (al k')) == 1#1) p))) hal, ?_⟩
  dsimp only
  rw [dif_pos (show 1 < (⟨2, ![N, N]⟩ : Shape).rank from Nat.one_lt_two)]
  unfold iotaInDim
  refine congrArg (BitVec.ofNat 32) ?_
  exact congrArg (fun al : Fin N → (⟨2, ![N, N]⟩ : Shape).Idx =>
    (al (sortedFrom (fun k k' => Ideal.cmp CmpDirection.gt.ordered (a (al k)) (a (al k')) == 1#1) p) (1 : Fin 2)).val) hal

end Cert.Order
-- ==== Proof.Reference.lean ====
/- The reference read at an element: the place its top-k gives the element in its row decides which weight it holds. -/
module

public import proofs.«01_k».proof.Proof.Order
public import proofs.«01_k».proof.Proof.Sims
public import proofs.«01_k».proof.Proof.Gen.ReferenceIdeal.Run
public import Idealize.ShloMosaic.Lib.Routing.OpsSet
public import Idealize.ShloMosaic.Lib.IdealHost

@[expose] public section

noncomputable section

namespace Cert.Ref

open Idealize.ShloMosaic Idealize.ShloMosaic.TcCoe Idealize.ShloMosaic.Pointwise
open Cert.ReferenceIdeal Cert.ReferenceIdeal.Gen Cert.Order

/-- The similarities, as the reference takes them. -/
def adj (x : FVec Ideal S4096x16 .f32) : FVec Ideal S4096x4096 .f32 :=
  Host.dotGeneral dot_S4096x16_S16x4096_S4096x4096_1_0_0_1_n_n none
    (Host.divf x (broadcastInDim S4096x16 ![0, 1] bcast_S4096x1_S4096x16_0_1
      (maximumf (Host.sqrt (broadcastInDim S4096x1 ![0] bcast_S4096_S4096x1_0
        (Host.reduceAdd (mulf x x) (constant S_ .f32 0x00000000#32) reducesTo_S4096x16_S4096_d1 h_S_)))
        (broadcastInDim S4096x1 ![] bcast_S_S4096x1 (constant S_ .f32 0x2B8CBCCC#32)))))
    (transpose S16x4096 [1, 0] (Host.divf x (broadcastInDim S4096x16 ![0, 1] bcast_S4096x1_S4096x16_0_1
      (maximumf (Host.sqrt (broadcastInDim S4096x1 ![0] bcast_S4096_S4096x1_0
        (Host.reduceAdd (mulf x x) (constant S_ .f32 0x00000000#32) reducesTo_S4096x16_S4096_d1 h_S_)))
        (broadcastInDim S4096x1 ![] bcast_S_S4096x1 (constant S_ .f32 0x2B8CBCCC#32)))))
      transposes_S4096x16_S16x4096_1_0)

/-- The 21 nearest columns of every row. -/
def near (x : FVec Ideal S4096x16 .f32) : IVec S4096x21 32 :=
  (Host.topK S4096x21 1 (FloatOps.cmpfTotal .gt) (adj x) sliceFits_S4096x4096_S4096x21).2

/-- The row and the column of every element listed. -/
def places (n : IVec S4096x21 32) : IVec S4096x21x2 32 :=
  concatenate S4096x21x2 2 [⟨S4096x21x1, (broadcastInDim S4096x21x1 ![0, 1] bcast_S4096x21_S4096x21x1_0_1
      (broadcastInDim S4096x21 ![0, 1] bcast_S4096x1_S4096x21_0_1
        (select (cmpi .slt (broadcastInDim S4096x1 ![0] bcast_S4096_S4096x1_0 (iotaInDim S4096 32 0))
            (broadcastInDim S4096x1 ![] bcast_S_S4096x1 (constantI S_ 32 0#32)))
          (addi (broadcastInDim S4096x1 ![0] bcast_S4096_S4096x1_0 (iotaInDim S4096 32 0))
            (broadcastInDim S4096x1 ![] bcast_S_S4096x1 (constantI S_ 32 4096#32)))
          (broadcastInDim S4096x1 ![0] bcast_S4096_S4096x1_0 (iotaInDim S4096 32 0)))))⟩,
    ⟨S4096x21x1, (broadcastInDim S4096x21x1 ![0, 1] bcast_S4096x21_S4096x21x1_0_1
      (select (cmpi .slt n (broadcastInDim S4096x21 ![] bcast_S_S4096x21 (constantI S_ 32 0#32)))
        (addi n (broadcastInDim S4096x21 ![] bcast_S_S4096x21 (constantI S_ 32 4096#32))) n))⟩]
    concatenates_S4096x21x1_S4096x21x1_S4096x21x2_d2

/-- Zeros, with `u` put at the places listed. -/
def put (n : IVec S4096x21 32) (u : FVec Ideal S4096x21 .f32) : FVec Ideal S4096x4096 .f32 :=
  Host.scatter scatter_S4096x4096_S4096x21x2_S4096x21_n_01_01_2 (fun _ b => b)
    (broadcastInDim S4096x4096 ![] bcast_S_S4096x4096 (constant S_ .f32 0x00000000#32)) (places n) u

/-- The weights at the places listed, masked by ones at the same places. -/
def weighted (n : IVec S4096x21 32) (w : FVec Ideal S21 .f32) : FVec Ideal S4096x4096 .f32 :=
  mulf (put n (broadcastInDim S4096x21 ![0, 1] bcast_S1x21_S4096x21_0_1 (broadcastInDim S1x21 ![1] bcast_S21_S1x21_1 w)))
    (put n (broadcastInDim S4096x21 ![] bcast_S_S4096x21 (constant S_ .f32 0x3F800000#32)))

/-- A matrix over its row sums and a small number. -/
def normal (a : FVec Ideal S4096x4096 .f32) : FVec Ideal S4096x4096 .f32 :=
  Host.divf a (broadcastInDim S4096x4096 ![0, 1] bcast_S4096x1_S4096x4096_0_1
    (addf (broadcastInDim S4096x1 ![0] bcast_S4096_S4096x1_0
      (Host.reduceAdd a (constant S_ .f32 0x00000000#32) reducesTo_S4096x4096_S4096_d1 h_S_))
      (broadcastInDim S4096x1 ![] bcast_S_S4096x1 (constant S_ .f32 0x322BCC77#32))))

/-- The reference's result. -/
theorem res_eq (m : (ℓ : Loc nD τ sig) → Buf (Elt Ideal) ℓ) (c : Dev nD) :
    Value.res_out0 m c = normal (weighted (near (m ((c.tc : Thread nD τ).loc main_arg0))) (m ((c.tc : Thread nD τ).loc main_arg1))) :=
  rfl

/-- The reference's similarities. -/
theorem adj_at (x : FVec Ideal S4096x16 .f32) (i j : Fin 4096) :
    adj x (ix2 i j) = Sims.sim (fun i k => x (ix2 i k)) i j := by
  unfold adj
  pointwise
  rfl

/-- The columns listed are the first 21 of the row's order. -/
theorem near_at (x : FVec Ideal S4096x16 .f32) (i : Fin 4096) (q : Fin 21) (p : Fin 4096) (hp : p.val = q.val) :
    near x (ix2 i q) = BitVec.ofNat 32 (order (Sims.sim (fun i k => x (ix2 i k)) i) p).val := by
  have h := (topK_at (adj x) sliceFits_S4096x4096_S4096x21 i q p hp).2
  rw [show (fun j => adj x (ix2 i j)) = Sims.sim (fun i k => x (ix2 i k)) i from funext fun j => adj_at x i j] at h
  exact h

/-- A small word is its number. -/
theorem toInt_small (k : Fin 4096) : (BitVec.ofNat 32 k.val).toInt = k.val := by
  have hk := k.isLt
  have h : (BitVec.ofNat 32 k.val).toNat = k.val := by rw [BitVec.toNat_ofNat]; omega
  rw [BitVec.toInt_eq_toNat_of_lt (by rw [h]; omega), h]

/-- A small word is not wrapped. -/
theorem wrap_small (k : Fin 4096) (a : BitVec 32) :
    Scalar.select (IntOp.cmpi .slt (BitVec.ofNat 32 k.val) 0#32) a (BitVec.ofNat 32 k.val) = BitVec.ofNat 32 k.val :=
  Routing.wrap_of_lt _ _ (by rw [BitVec.toNat_ofNat]; have := k.isLt; omega)

/-- The row listed. -/
theorem places_row (n : IVec S4096x21 32) (a : Fin 4096) (b : Fin 21) : (places n (ix3 a b 0)).toInt = a.val := by
  unfold places
  pointwise
  rw [wrap_small, toInt_small]

/-- The column listed. -/
theorem places_col (n : IVec S4096x21 32) (a : Fin 4096) (b : Fin 21) (k : Fin 4096) (h : n (ix2 a b) = BitVec.ofNat 32 k.val) :
    (places n (ix3 a b 1)).toInt = k.val := by
  unfold places
  pointwise
  rw [h, wrap_small, toInt_small]

theorem idx2 {A B : ℕ} (k : (⟨2, ![A, B]⟩ : Shape).Idx) : k = ix2 (k 0) (k 1) := by
  funext b
  match b with
  | ⟨0, _⟩ => rfl
  | ⟨1, _⟩ => rfl

/-- Where an update lands. -/
theorem lands (n : IVec S4096x21 32) (f : Fin 4096 → Fin 21 → Fin 4096)
    (hn : ∀ a b, n (ix2 a b) = BitVec.ofNat 32 (f a b).val) (a : Fin 4096) (b : Fin 21) (i j : Fin 4096) :
    scatter_S4096x4096_S4096x21x2_S4096x21_n_01_01_2.resultIdx? (ix2 a b) (places n) = some (ix2 i j) ↔ a = i ∧ f a b = j := by
  refine (Routing.scatter_lands2 scatter_S4096x4096_S4096x21x2_S4096x21_n_01_01_2 rfl rfl rfl (places n) a b i j).trans ?_
  change (places n (ix3 a b 0)).toInt = i.val ∧ (places n (ix3 a b 1)).toInt = j.val ↔ _
  rw [places_row, places_col n a b (f a b) (hn a b), Nat.cast_inj, Nat.cast_inj, Fin.ext_iff, Fin.ext_iff]

/-- `u` at a place listed once in its row. -/
theorem put_hit (n : IVec S4096x21 32) (f : Fin 4096 → Fin 21 → Fin 4096)
    (hn : ∀ a b, n (ix2 a b) = BitVec.ofNat 32 (f a b).val) (u : FVec Ideal S4096x21 .f32) (i : Fin 4096)
    (hf : Function.Injective (f i)) (q : Fin 21) : put n u (ix2 i (f i q)) = u (ix2 i q) := by
  unfold put
  refine Routing.scatter_set_hit _ _ _ _ _ _ (fun k hk => ?_) (ix2 i q) ((lands n f hn i q i _).2 ⟨rfl, rfl⟩)
  rw [idx2 k] at hk ⊢
  obtain ⟨h1, h2⟩ := (lands n f hn _ _ i _).1 hk
  rw [h1] at h2 ⊢
  rw [hf h2]
  rfl

/-- Zero at the others. -/
theorem put_miss (n : IVec S4096x21 32) (f : Fin 4096 → Fin 21 → Fin 4096)
    (hn : ∀ a b, n (ix2 a b) = BitVec.ofNat 32 (f a b).val) (u : FVec Ideal S4096x21 .f32) (i j : Fin 4096)
    (hj : ∀ q, f i q ≠ j) : put n u (ix2 i j) = (0 : EReal) := by
  unfold put
  rw [Routing.scatter_set_miss _ _ _ _ _ fun k hk => ?_]
  · pointwise
  · rw [idx2 k] at hk
    obtain ⟨h1, h2⟩ := (lands n f hn _ _ i j).1 hk
    exact hj _ (h1 ▸ h2)

/-- The quotient by the row sum. -/
theorem normal_at (a : FVec Ideal S4096x4096 .f32) (i j : Fin 4096) :
    normal a (ix2 i j) = Ideal.div (a (ix2 i j)) (∑ j, (a (ix2 i j) : EReal) + Ideal.ofBits .f32 0x322BCC77#32) := by
  unfold normal
  pointwise

/-- The weight of rank `r`. -/
abbrev wt (w : FVec Ideal S21 .f32) (r : ℕ) : EReal := w (ix1 ⟨r % 21, Nat.mod_lt _ (by decide)⟩)

/-- The masked weights at the element of rank `p`. -/
theorem weighted_at (x : FVec Ideal S4096x16 .f32) (w : FVec Ideal S21 .f32) (i p : Fin 4096) :
    weighted (near x) w (ix2 i (order (Sims.sim (fun i k => x (ix2 i k)) i) p))
      = if p.val ≤ 20 then wt w p.val else (0 : EReal) := by
  have hn : ∀ a (b : Fin 21), near x (ix2 a b) = BitVec.ofNat 32
      (order (Sims.sim (fun i k => x (ix2 i k)) a) ⟨b.val, by omega⟩).val := fun a b => near_at x a b ⟨b.val, by omega⟩ rfl
  have hu : ∀ q : Fin 21, (broadcastInDim S4096x21 ![0, 1] bcast_S1x21_S4096x21_0_1
      (broadcastInDim S1x21 ![1] bcast_S21_S1x21_1 w) (ix2 i q) : EReal) = w (ix1 q) := fun q => by pointwise
  have h1 : ∀ q : Fin 21, (broadcastInDim S4096x21 ![] bcast_S_S4096x21 (constant S_ .f32 0x3F800000#32 : FVec Ideal S_ .f32) (ix2 i q) : EReal)
      = Ideal.ofBits .f32 0x3F800000#32 := fun q => by pointwise
  unfold weighted
  change (put (near x) _ _ : EReal) * put (near x) _ _ = _
  by_cases hp : p.val ≤ 20
  · have hinj : Function.Injective fun b : Fin 21 => order (Sims.sim (fun i k => x (ix2 i k)) i) ⟨b.val, by omega⟩ := by
      intro b b' h
      have := Fin.ext_iff.1 (order_injective _ h)
      exact Fin.ext this
    have hit := fun u => put_hit (near x) _ hn u i hinj ⟨p.val, by omega⟩
    rw [if_pos hp]
    refine (congrArg₂ (· * ·) ((hit _).trans (hu _)) ((hit _).trans (h1 _))).trans ?_
    change (w _ : EReal) * Ideal.ofBits .f32 0x3F800000#32 = _
    rw [Ideal.ofBits_one_f32, mul_one]
    congr 2
    exact Fin.ext (Nat.mod_eq_of_lt (by omega)).symm
  · have miss := fun u => put_miss (near x) _ hn u i (order (Sims.sim (fun i k => x (ix2 i k)) i) p) fun q h => by
      have := Fin.ext_iff.1 (order_injective _ h)
      have hq := q.isLt
      simp only at this
      omega
    rw [if_neg hp, miss, miss, mul_zero]

/-- The row sums are the sum of the weights. -/
theorem weighted_sum (x : FVec Ideal S4096x16 .f32) (w : FVec Ideal S21 .f32) (i : Fin 4096) :
    ∑ j, (weighted (near x) w (ix2 i j) : EReal) = ∑ q : Fin 21, wt w q.val := by
  rw [← Function.Bijective.sum_comp ⟨order_injective (Sims.sim (fun i k => x (ix2 i k)) i), order_surjective _⟩]
  rw [Finset.sum_congr rfl fun p _ => weighted_at x w i p,
    Fin.sum_univ_eq_sum_range (fun p => if p ≤ 20 then wt w p else (0 : EReal)) 4096,
    Fin.sum_univ_eq_sum_range (fun p => wt w p) 21]
  symm
  have hsub : Finset.range 21 ⊆ Finset.range 4096 := Finset.range_subset_range.2 (by omega)
  refine (Finset.sum_congr rfl fun p hp => ?_).trans (Finset.sum_subset hsub fun p _ hp => ?_)
  · exact (if_pos (by have := Finset.mem_range.1 hp; omega)).symm
  · exact if_neg (by have := mt Finset.mem_range.2 hp; omega)

/-- The reference at the element of rank `p`: the weight of that rank over the denominator for `p ≤ 20`, zero for the
others. -/
theorem out_at (x : FVec Ideal S4096x16 .f32) (w : FVec Ideal S21 .f32) (i p : Fin 4096)
    (h0 : ∑ q : Fin 21, wt w q.val + Ideal.ofBits .f32 0x322BCC77#32 ≠ (0 : EReal)) :
    normal (weighted (near x) w) (ix2 i (order (Sims.sim (fun i k => x (ix2 i k)) i) p))
      = if p.val ≤ 20 then Ideal.div (wt w p.val) (∑ q : Fin 21, wt w q.val + Ideal.ofBits .f32 0x322BCC77#32) else 0 := by
  rw [normal_at, weighted_sum, weighted_at]
  split
  · rfl
  · rw [Ideal.div, if_neg h0, zero_mul]

end Cert.Ref
-- ==== Proof.Pre.lean ====
/- The precondition read: every row's 21 largest similarities are ranked by strict inequalities and taken from the lanes at
   most five at a time, and the denominator is not zero. -/
module

public import proofs.«01_k».proof.Defs
public import proofs.«01_k».proof.Proof.Order
public import proofs.«01_k».proof.Proof.Sims

@[expose] public section

noncomputable section

namespace Cert.Pre

open Idealize.ShloMosaic Idealize.ShloMosaic.Pointwise
open Cert.Pre_ranked_apart Cert.Order

/-- The side conditions of the precondition's operations. -/
instance facts : Cert.Pre_ranked_apart.Facts where
  reducesTo_S4096x16_S4096_d1 := by decide
  h_S_ := by decide
  bcast_S4096_S4096x1_0 := by decide
  bcast_S_S4096x1 := by decide
  bcast_S4096x1_S4096x16_0_1 := by decide
  transposes_S4096x16_S16x4096_1_0 := by decide
  sliceFits_S4096x4096_S4096x22 := by decide
  slices_S4096x22_S4096x21_0_0 := by decide
  slices_S4096x22_S4096x21_0_1 := by decide
  slices_S4096x22_S4096x1_0_20 := by decide
  bcast_S4096x1_S4096x4096_0_1 := by decide
  bcast_S_S4096x4096 := by decide
  shapeCasts_S4096x4096_S4096x32x128 := by decide
  reducesTo_S4096x32x128_S4096x128_d1 := by decide
  bcast_S_S4096x128 := by decide
  reducesTo_S21_S_d0 := by decide
  dot_S4096x16_S16x4096_S4096x4096_1_0_0_1_n_n_wf := by decide

open Facts

/-- The similarities, as the precondition takes them. -/
def adj (x : FVec Ideal S4096x16 .f32) : FVec Ideal S4096x4096 .f32 :=
  Host.dotGeneral dot_S4096x16_S16x4096_S4096x4096_1_0_0_1_n_n none
    (Host.divf x (broadcastInDim S4096x16 ![0, 1] bcast_S4096x1_S4096x16_0_1
      (maximumf (Host.sqrt (broadcastInDim S4096x1 ![0] bcast_S4096_S4096x1_0
        (Host.reduceAdd (mulf x x) (constant S_ .f32 0x00000000#32) reducesTo_S4096x16_S4096_d1 h_S_)))
        (broadcastInDim S4096x1 ![] bcast_S_S4096x1 (constant S_ .f32 0x2B8CBCCC#32)))))
    (transpose S16x4096 [1, 0] (Host.divf x (broadcastInDim S4096x16 ![0, 1] bcast_S4096x1_S4096x16_0_1
      (maximumf (Host.sqrt (broadcastInDim S4096x1 ![0] bcast_S4096_S4096x1_0
        (Host.reduceAdd (mulf x x) (constant S_ .f32 0x00000000#32) reducesTo_S4096x16_S4096_d1 h_S_)))
        (broadcastInDim S4096x1 ![] bcast_S_S4096x1 (constant S_ .f32 0x2B8CBCCC#32)))))
      transposes_S4096x16_S16x4096_1_0)

/-- The precondition's similarities. -/
theorem adj_at (x : FVec Ideal S4096x16 .f32) (i j : Fin 4096) :
    adj x (ix2 i j) = Sims.sim (fun i k => x (ix2 i k)) i j := by
  unfold adj
  pointwise
  rfl

/-- The 22 largest similarities of every row. -/
def best (x : FVec Ideal S4096x16 .f32) : FVec Ideal S4096x22 .f32 :=
  (Host.topK S4096x22 1 (FloatOps.cmpfTotal .gt) (adj x) sliceFits_S4096x4096_S4096x22).1

/-- The value of rank `q` of a row. -/
theorem best_at (x : FVec Ideal S4096x16 .f32) (i : Fin 4096) (q : Fin 22) (p : Fin 4096) (hp : p.val = q.val) :
    best x (ix2 i q)
      = Sims.sim (fun i k => x (ix2 i k)) i (order (Sims.sim (fun i k => x (ix2 i k)) i) p) := by
  have h := (topK_at (adj x) sliceFits_S4096x4096_S4096x22 i q p hp).1
  rw [show (fun j => adj x (ix2 i j)) = Sims.sim (fun i k => x (ix2 i k)) i from funext fun j => adj_at x i j, adj_at] at h
  exact h

/-- The first condition: the 22 largest descend strictly. -/
def desc (v : FVec Ideal S4096x22 .f32) : IVec S4096x21 1 :=
  cmpf .ogt (extractStridedSlice S4096x21 ![0, 0] v slices_S4096x22_S4096x21_0_0)
    (extractStridedSlice S4096x21 ![0, 1] v slices_S4096x22_S4096x21_0_1)

/-- The second: no lane holds more than five of the 21 largest. -/
def spread (a : FVec Ideal S4096x4096 .f32) (v : FVec Ideal S4096x22 .f32) : IVec S4096x128 1 :=
  cmpf .ole (Host.reduceAdd (shapeCast S4096x32x128
      (select (cmpf .oge a (broadcastInDim S4096x4096 ![0, 1] bcast_S4096x1_S4096x4096_0_1
          (extractStridedSlice S4096x1 ![0, 20] v slices_S4096x22_S4096x1_0_20)))
        (broadcastInDim S4096x4096 ![] bcast_S_S4096x4096 (constant S_ .f32 0x3F800000#32 : FVec Ideal S_ .f32))
        (broadcastInDim S4096x4096 ![] bcast_S_S4096x4096 (constant S_ .f32 0x00000000#32 : FVec Ideal S_ .f32)))
      shapeCasts_S4096x4096_S4096x32x128) (constant S_ .f32 0x00000000#32) reducesTo_S4096x32x128_S4096x128_d1 h_S_)
    (broadcastInDim S4096x128 ![] bcast_S_S4096x128 (constant S_ .f32 0x40A00000#32))

/-- The third: the denominator is not zero. -/
def nonzero (w : FVec Ideal S21 .f32) : IVec S_ 1 :=
  cmpf .une (addf (Host.reduceAdd w (constant S_ .f32 0x00000000#32) reducesTo_S21_S_d0 h_S_)
    (constant S_ .f32 0x322BCC77#32)) (constant S_ .f32 0x00000000#32)

/-- The precondition's three results. -/
theorem fn_eq (x : FVec Ideal S4096x16 .f32) (w : FVec Ideal S21 .f32) :
    fn x w = (desc (best x), spread (adj x) (best x), nonzero w) := by
  unfold fn fn_part1 fn_where desc spread nonzero best adj
  rfl

/-- A comparison's bit is one only when the comparison holds. -/
theorem true_of {p : Prop} [Decidable p] (h : BitVec.ofBool (decide p) = 1#1) : p := by
  by_contra hp
  rw [decide_eq_false hp] at h
  exact absurd h (by decide)

/-- The first condition at rank `q`. -/
theorem desc_at (v : FVec Ideal S4096x22 .f32) (h : desc v = fun _ => 1#1) (i : Fin 4096) (q : Fin 21) :
    (v (ix2 i ⟨q.val + 1, by omega⟩) : EReal) < v (ix2 i ⟨q.val, by omega⟩) := by
  have h1 := congrFun h (ix2 i q)
  revert h1
  unfold desc
  pointwise
  intro h1
  have h2 := true_of h1
  rwa [show (⟨q.val + 1, by omega⟩ : Fin 22) = ⟨1 + q.val, by omega⟩ from Fin.ext (add_comm _ _)]

/-- The second at a lane: at most five of its 32 similarities reach the row's 21st largest. -/
theorem spread_at (a : FVec Ideal S4096x4096 .f32) (v : FVec Ideal S4096x22 .f32) (h : spread a v = fun _ => 1#1)
    (i : Fin 4096) (l : Fin 128) :
    (Finset.univ.filter fun g : Fin 32 => (v (ix2 i 20) : EReal) ≤ a (ix2 i (Rank.col g.val l))).card ≤ 5 := by
  have h1 := congrFun h (ix2 i l)
  revert h1
  unfold spread
  pointwise
  intro h1
  have h2 := true_of h1
  rw [Finset.sum_boole, Consts.five_eq] at h2
  have h3 : (Finset.univ.filter fun g : Fin 32 => (v (ix2 i 20) : EReal) ≤ a (ix2 i ⟨g.val * 128 + l.val, by omega⟩)).card ≤ 5 := by
    exact_mod_cast h2
  refine le_of_eq_of_le (congrArg Finset.card (Finset.filter_congr fun g _ => ?_)) h3
  have hg : Rank.col g.val l = ⟨g.val * 128 + l.val, by omega⟩ :=
    Fin.ext (by change 128 * (g.val % 32) + l.val = _; have := g.isLt; rw [Nat.mod_eq_of_lt this, mul_comm])
  rw [hg]

/-- The third. -/
theorem nonzero_at (w : FVec Ideal S21 .f32) (h : nonzero w = fun _ => 1#1) :
    ∑ q : Fin 21, (w (ix1 q) : EReal) + Ideal.ofBits .f32 0x322BCC77#32 ≠ 0 := by
  have h1 := congrFun h ix0
  revert h1
  unfold nonzero
  pointwise
  exact true_of

end Cert.Pre
-- ==== Proof.Equal.lean ====
/- The kernel's array is the reference's, under the precondition. -/
module

public import proofs.«01_k».proof.Proof.Array
public import proofs.«01_k».proof.Proof.Reference
public import proofs.«01_k».proof.Proof.Pre

@[expose] public section

noncomputable section

namespace Cert.Equal

open Idealize.ShloMosaic Idealize.ShloMosaic.TcCoe Idealize.ShloMosaic.Pointwise
open Cert.KernelIdeal Cert.KernelIdeal.Gen Cert.KernelIdeal.Value Cert.Block

/-- The rows and weights satisfy the precondition. -/
def Apart (x : FVec Ideal S4096x16 .f32) (w : FVec Ideal S21 .f32) : Prop :=
  (Cert.Pre_ranked_apart.fn (F := Ideal) x w).1 = (fun _ => 1#1) ∧ (Cert.Pre_ranked_apart.fn (F := Ideal) x w).2.1 = (fun _ => 1#1)
    ∧ (Cert.Pre_ranked_apart.fn (F := Ideal) x w).2.2 = (fun _ => 1#1)

/-- Under the precondition the top-k's order lists every row as the kernel's network needs. -/
theorem listed (x : FVec Ideal S4096x16 .f32) (w : FVec Ideal S21 .f32) (h : Apart x w) (i : Fin 4096) :
    Rank.Listed (α := EReal) (Sims.sim (fun i k => x (ix2 i k)) i) (Order.order (Sims.sim (fun i k => x (ix2 i k)) i)) := by
  obtain ⟨h1, h2, -⟩ := h
  rw [Pre.fn_eq] at h1 h2
  refine ⟨Order.order_surjective _, fun p p' hp => Order.order_le _ p p' hp, fun q => ?_, fun l => ?_⟩
  · have := Pre.desc_at _ h1 i q
    rwa [Pre.best_at x i ⟨q.val + 1, by omega⟩ ⟨q.val + 1, by omega⟩ rfl,
      Pre.best_at x i ⟨q.val, by omega⟩ ⟨q.val, by omega⟩ rfl] at this
  · have := Pre.spread_at _ _ h2 i l
    rw [Pre.best_at x i 20 20 rfl] at this
    simpa only [Pre.adj_at] using this

/-- Under the precondition the denominator is not zero. -/
theorem denom_ne (x : FVec Ideal S4096x16 .f32) (w : FVec Ideal S21 .f32) (h : Apart x w) :
    ∑ q : Fin 21, Ref.wt w q.val + Ideal.ofBits .f32 0x322BCC77#32 ≠ (0 : EReal) := by
  obtain ⟨-, -, h3⟩ := h
  rw [Pre.fn_eq] at h3
  have := Pre.nonzero_at w h3
  rwa [show (∑ q : Fin 21, Ref.wt w q.val) = ∑ q : Fin 21, (w (ix1 q) : EReal) from
    Finset.sum_congr rfl fun q _ => congrArg (fun k => w (ix1 k)) (Fin.ext (Nat.mod_eq_of_lt q.isLt))]

variable (m : (ℓ : Loc nD τ sig) → Buf (Elt Ideal) ℓ) (c : Dev nD)

/-- The weights the kernel reads. -/
theorem wgt_eq (t : Fin cfg0.N) : wgt (iblk m c 2 t) = Ref.wt (weightsOf m c) :=
  funext fun _ => iblk2_at m c t _

/-- The kernel's denominator is the sum of the weights and the small number. -/
theorem denom_eq (t : Fin cfg0.N) : (denom (iblk m c 2 t) : EReal)
    = ∑ q : Fin 21, Ref.wt (weightsOf m c) q.val + Ideal.ofBits .f32 0x322BCC77#32 := by
  rw [denom_at]
  refine congrArg (· + Ideal.ofBits .f32 0x322BCC77#32) (Finset.sum_congr rfl fun q _ => ?_)
  rw [iblk2_at]
  exact congrArg (fun k => weightsOf m c (ix1 k)) (Fin.ext (Nat.mod_eq_of_lt q.isLt).symm)

/-- The kernel's array is the reference's expression of the same arguments. -/
theorem array_eq (h : Apart (rowsOf m c) (weightsOf m c)) :
    G3 m c = Ref.normal (Ref.weighted (Ref.near (rowsOf m c)) (weightsOf m c)) := by
  have point : ∀ i j : Fin 4096, G3 m c (ix2 i j)
      = Ref.normal (Ref.weighted (Ref.near (rowsOf m c)) (weightsOf m c)) (ix2 i j) := fun i j => by
    obtain ⟨p, rfl⟩ := Order.order_surjective (Sims.sim (fun i k => rowsOf m c (ix2 i k)) i) j
    obtain ⟨t, r, hi⟩ : ∃ (t : Fin cfg0.N) (r : Fin 256), i.val = 256 * t.val + r.val :=
      ⟨⟨i.val / 256, lt_of_lt_of_eq (by omega : i.val / 256 < 16) N_0.symm⟩, ⟨i.val % 256, by omega⟩, (Nat.div_add_mod _ _).symm⟩
    have hS : (fun j => k0_pay3 (iblk m c 0 t) (k0_pay2 (rowsOf m c)) (ix2 r j)) = Sims.sim (fun i k => rowsOf m c (ix2 i k)) i :=
      funext fun j => sims_at m c t r i j hi
    have hn := denom_ne _ _ h
    rw [array_at m c t r i _ hi, wgt_eq, Ref.out_at _ _ _ _ hn, ← denom_eq m c t]
    rw [← denom_eq m c t] at hn
    refine blockOf_at _ _ (11258999 * 2 ^ (-50 : ℤ)) _ ?_ hn r _ ?_ (fun j => ?_) p
    · rw [denom_eq, Consts.small_eq]
    · rw [hS]
      exact listed _ _ h i
    · rw [congrFun hS j]
      exact Sims.neg_lt_sim _ _ _
  exact funext fun k => by rw [Ref.idx2 k]; exact point _ _

end Cert.Equal
-- ==== Proof.lean ====
/- The claims, assembled. The frames are the generated ones, or the reference's run weakened; the kernel's result array and
   the reference's, as their runs give them, are equal by `Cert.Equal.array_eq`. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.TcCoe

/-- The reference runs, its arguments unchanged, every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, under the precondition. -/
theorem algebraic_KernelIdeal_ReferenceIdeal :
    algebraic_KernelIdeal_ReferenceIdeal_pre_ranked_apart (hPre_ranked_apart := Cert.Pre.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.Ref.res_eq m' c).trans ?_)
  rw [(hagree c).1, (hagree c).2]
  exact (Cert.Equal.array_eq m c (hpre c)).symm

/-- Everything claimed. -/
theorem claim : Cert.Claim := ⟨Cert.Kernel.Gen.facts, Cert.KernelIdeal.Gen.facts, Cert.ReferenceIdeal.Gen.facts, Cert.Pre.facts,
  fun m ρ _ => Cert.Kernel.Gen.frame m ρ, fun m ρ _ => Cert.KernelIdeal.Gen.frame m ρ,
  fun m ρ _ => Cert.KernelIdeal.Gen.frame m ρ, quiescent_ReferenceIdeal,
  fun m ρ _ => quiescent_ReferenceIdeal m ρ True.intro,
  (trivial : preserves_Kernel_KernelIdeal), algebraic_KernelIdeal_ReferenceIdeal⟩

end Cert.Proof

end
